-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "log2_e" .f32 0x3FB8AA3B#32 (((Real.log 2)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x8192x4096 : Shape := ⟨3, ![4, 8192, 4096]⟩
abbrev S32 : Shape := ⟨1, ![32]⟩
abbrev S1x256x128 : Shape := ⟨3, ![1, 256, 128]⟩
abbrev S1x8192x128 : Shape := ⟨3, ![1, 8192, 128]⟩
abbrev S8192x256 : Shape := ⟨2, ![8192, 256]⟩
abbrev S128x8192 : Shape := ⟨2, ![128, 8192]⟩
abbrev S1x512x128 : Shape := ⟨3, ![1, 512, 128]⟩
abbrev S512x128 : Shape := ⟨2, ![512, 128]⟩
abbrev S128x512 : Shape := ⟨2, ![128, 512]⟩
abbrev S1 : Shape := ⟨1, ![1]⟩
abbrev S256x128 : Shape := ⟨2, ![256, 128]⟩
abbrev S8x256 : Shape := ⟨2, ![8, 256]⟩
abbrev S512x256 : Shape := ⟨2, ![512, 256]⟩
abbrev S64x8x256 : Shape := ⟨3, ![64, 8, 256]⟩
abbrev S256 : Shape := ⟨1, ![256]⟩
abbrev S1x256 : Shape := ⟨2, ![1, 256]⟩
abbrev S128x256 : Shape := ⟨2, ![128, 256]⟩

abbrev nBuf : Space → Nat
  | .hbm => 7
  | .vmem => 10
  | .smem => 3
  | _ => 0

abbrev bufTy : (tb : Table) → Fin (tcTables nBuf tb) → BufTy
  | .hbm, ⟨0, _⟩ => ⟨S4x8192x4096, .fp8e4m3⟩
  | .hbm, ⟨1, _⟩ => ⟨S32, .f32⟩
  | .hbm, ⟨2, _⟩ => ⟨S4x8192x4096, .fp8e4m3⟩
  | .hbm, ⟨3, _⟩ => ⟨S32, .f32⟩
  | .hbm, ⟨4, _⟩ => ⟨S4x8192x4096, .fp8e4m3⟩
  | .hbm, ⟨5, _⟩ => ⟨S32, .f32⟩
  | .hbm, ⟨6, _⟩ => ⟨S4x8192x4096, .bf16⟩
  | .local _ .vmem, ⟨0, _⟩ => ⟨S1x256x128, .fp8e4m3⟩
  | .local _ .vmem, ⟨1, _⟩ => ⟨S1x256x128, .fp8e4m3⟩
  | .local _ .vmem, ⟨2, _⟩ => ⟨S1x8192x128, .fp8e4m3⟩
  | .local _ .vmem, ⟨3, _⟩ => ⟨S1x8192x128, .fp8e4m3⟩
  | .local _ .vmem, ⟨4, _⟩ => ⟨S1x8192x128, .fp8e4m3⟩
  | .local _ .vmem, ⟨5, _⟩ => ⟨S1x8192x128, .fp8e4m3⟩
  | .local _ .vmem, ⟨6, _⟩ => ⟨S1x256x128, .bf16⟩
  | .local _ .vmem, ⟨7, _⟩ => ⟨S1x256x128, .bf16⟩
  | .local _ .vmem, ⟨8, _⟩ => ⟨S8192x256, .f32⟩
  | .local _ .vmem, ⟨9, _⟩ => ⟨S128x8192, .fp8e4m3⟩
  | .local _ .smem, ⟨0, _⟩ => ⟨S32, .f32⟩
  | .local _ .smem, ⟨1, _⟩ => ⟨S32, .f32⟩
  | .local _ .smem, ⟨2, _⟩ => ⟨S32, .f32⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg6_0 : Ref sig .tc := ⟨.vmem, 6, rfl⟩
abbrev cc0_stg6_1 : Ref sig .tc := ⟨.vmem, 7, rfl⟩
abbrev cc0_scratch0 : Ref sig .tc := ⟨.vmem, 8, rfl⟩
abbrev cc0_scratch1 : Ref sig .tc := ⟨.vmem, 9, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨3, ![4, 32, 32], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_24 : BitVec 32 := 0#32
  let c16_i32_25 : BitVec 32 := 16#32
  let v37 : BitVec 32 := Scalar.addi c0_i32_24 c16_i32_25
  let c1_i32_26 : BitVec 32 := 1#32
  ⟨c0_i32_24, v37, c1_i32_26⟩
def k0_off1 (k0_t1 : Fin k0_t1_loop.trips) : Fin 3 → Nat :=
  let c0_28 : Index := 0#32
  let c0_i32_24 : BitVec 32 := 0#32
  let c1_i32_26 : BitVec 32 := 1#32
  let arg12 : BitVec 32 := Scf.iv c0_i32_24 c1_i32_26 k0_t1
  let c512_i32 : BitVec 32 := 512#32
  let v38 : BitVec 32 := Scalar.muli arg12 c512_i32
  let v39 : Index := Scalar.indexCast v38
  let c0_29 : Index := 0#32
  ![0, v39.toNat, 0]
def k0_off2 (k0_t1 : Fin k0_t1_loop.trips) : Fin 2 → Nat :=
  let c0_30 : Index := 0#32
  let c0_i32_24 : BitVec 32 := 0#32
  let c1_i32_26 : BitVec 32 := 1#32
  let arg12 : BitVec 32 := Scf.iv c0_i32_24 c1_i32_26 k0_t1
  let c512_i32 : BitVec 32 := 512#32
  let v38 : BitVec 32 := Scalar.muli arg12 c512_i32
  let v45 : Index := Scalar.indexCast v38
  ![0, v45.toNat]
def k0_off3 (i : grid0.Coords) : Fin 1 → Nat :=
  let arg1 : BitVec 32 := BitVec.ofNat 32 (i 1).val
  let v3 : Index := Scalar.indexCast arg1
  ![v3.toNat]
@[reducible] def k0_t2_loop : Scf.Loop 32 :=
  let c0_i32_5 : BitVec 32 := 0#32
  let c16_i32 : BitVec 32 := 16#32
  let v13 : BitVec 32 := Scalar.addi c0_i32_5 c16_i32
  let c1_i32 : BitVec 32 := 1#32
  ⟨c0_i32_5, v13, c1_i32⟩
def k0_off4 (k0_t2 : Fin k0_t2_loop.trips) : Fin 3 → Nat :=
  let c0_24 : Index := 0#32
  let c0_i32_5 : BitVec 32 := 0#32
  let c1_i32 : BitVec 32 := 1#32
  let arg12 : BitVec 32 := Scf.iv c0_i32_5 c1_i32 k0_t2
  let c512_i32 : BitVec 32 := 512#32
  let v37 : BitVec 32 := Scalar.muli arg12 c512_i32
  let v38 : Index := Scalar.indexCast v37
  let c0_25 : Index := 0#32
  ![0, v38.toNat, 0]
def k0_off5 (k0_t2 : Fin k0_t2_loop.trips) : Fin 2 → Nat :=
  let c0_i32_5 : BitVec 32 := 0#32
  let c1_i32 : BitVec 32 := 1#32
  let arg12 : BitVec 32 := Scf.iv c0_i32_5 c1_i32 k0_t2
  let c512_i32 : BitVec 32 := 512#32
  let v37 : BitVec 32 := Scalar.muli arg12 c512_i32
  let v44 : Index := Scalar.indexCast v37
  let c0_27 : Index := 0#32
  ![v44.toNat, 0]
@[reducible] def k0_t3_loop : Scf.Loop 32 :=
  let c0_i32_9 : BitVec 32 := 0#32
  let c16_i32_10 : BitVec 32 := 16#32
  let v18 : BitVec 32 := Scalar.addi c0_i32_9 c16_i32_10
  let c1_i32_11 : BitVec 32 := 1#32
  ⟨c0_i32_9, v18, c1_i32_11⟩
def k0_off6 (k0_t3 : Fin k0_t3_loop.trips) : Fin 2 → Nat :=
  let c0_i32_9 : BitVec 32 := 0#32
  let c1_i32_11 : BitVec 32 := 1#32
  let arg12 : BitVec 32 := Scf.iv c0_i32_9 c1_i32_11 k0_t3
  let c512_i32 : BitVec 32 := 512#32
  let v37 : BitVec 32 := Scalar.muli arg12 c512_i32
  let v38 : Index := Scalar.indexCast v37
  let c0_24 : Index := 0#32
  ![v38.toNat, 0]
@[reducible] def k0_t4_loop : Scf.Loop 32 :=
  let c0_i32_16 : BitVec 32 := 0#32
  let c16_i32_17 : BitVec 32 := 16#32
  let v25 : BitVec 32 := Scalar.addi c0_i32_16 c16_i32_17
  let c1_i32_18 : BitVec 32 := 1#32
  ⟨c0_i32_16, v25, c1_i32_18⟩
def k0_off7 (k0_t4 : Fin k0_t4_loop.trips) : Fin 2 → Nat :=
  let c0_i32_16 : BitVec 32 := 0#32
  let c1_i32_18 : BitVec 32 := 1#32
  let arg12 : BitVec 32 := Scf.iv c0_i32_16 c1_i32_18 k0_t4
  let c512_i32 : BitVec 32 := 512#32
  let v37 : BitVec 32 := Scalar.muli arg12 c512_i32
  let v38 : Index := Scalar.indexCast v37
  let c0_24 : Index := 0#32
  ![v38.toNat, 0]
def k0_off8 (k0_t4 : Fin k0_t4_loop.trips) : Fin 2 → Nat :=
  let c0_27 : Index := 0#32
  let c0_i32_16 : BitVec 32 := 0#32
  let c1_i32_18 : BitVec 32 := 1#32
  let arg12 : BitVec 32 := Scf.iv c0_i32_16 c1_i32_18 k0_t4
  let c512_i32 : BitVec 32 := 512#32
  let v37 : BitVec 32 := Scalar.muli arg12 c512_i32
  let v47 : Index := Scalar.indexCast v37
  ![0, v47.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 1 → Memref sig .tc .smem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x256x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x8192x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x8192x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== KernelIdeal.lean ====
variable {F : FTy → Type} [FloatOps F] [Named F]
def κ : String → Option EReal := fun
  | "log2_e" => some (((Real.log 2)⁻¹ : ℝ) : EReal)
  | _ => none
-- ==== ReferenceIdeal.lean ====
abbrev S4x8192x4096 : Shape := ⟨3, ![4, 8192, 4096]⟩
abbrev S32 : Shape := ⟨1, ![32]⟩
abbrev S4x8192x32x128 : Shape := ⟨4, ![4, 8192, 32, 128]⟩
abbrev S4x32x8192x8192 : Shape := ⟨4, ![4, 32, 8192, 8192]⟩
abbrev S1x32x1x1 : Shape := ⟨4, ![1, 32, 1, 1]⟩
abbrev S4x32x8192 : Shape := ⟨3, ![4, 32, 8192]⟩
abbrev S4x32x8192x1 : Shape := ⟨4, ![4, 32, 8192, 1]⟩
abbrev S4x32x128x8192 : Shape := ⟨4, ![4, 32, 128, 8192]⟩
abbrev S1x1x32x1 : Shape := ⟨4, ![1, 1, 32, 1]⟩

abbrev nBuf : Space → Nat
  | .hbm => 7
  | .vmem => 7
  | .smem => 0
  | _ => 0

abbrev bufTy : (tb : Table) → Fin (tcTables nBuf tb) → BufTy
  | .hbm, ⟨0, _⟩ => ⟨S4x8192x4096, .fp8e4m3⟩
  | .hbm, ⟨1, _⟩ => ⟨S32, .f32⟩
  | .hbm, ⟨2, _⟩ => ⟨S4x8192x4096, .fp8e4m3⟩
  | .hbm, ⟨3, _⟩ => ⟨S32, .f32⟩
  | .hbm, ⟨4, _⟩ => ⟨S4x8192x4096, .fp8e4m3⟩
  | .hbm, ⟨5, _⟩ => ⟨S32, .f32⟩
  | .hbm, ⟨6, _⟩ => ⟨S4x8192x4096, .bf16⟩
  | .local _ .vmem, ⟨0, _⟩ => ⟨S4x8192x4096, .fp8e4m3⟩
  | .local _ .vmem, ⟨1, _⟩ => ⟨S32, .f32⟩
  | .local _ .vmem, ⟨2, _⟩ => ⟨S4x8192x4096, .fp8e4m3⟩
  | .local _ .vmem, ⟨3, _⟩ => ⟨S32, .f32⟩
  | .local _ .vmem, ⟨4, _⟩ => ⟨S4x8192x4096, .fp8e4m3⟩
  | .local _ .vmem, ⟨5, _⟩ => ⟨S32, .f32⟩
  | .local _ .vmem, ⟨6, _⟩ => ⟨S4x8192x4096, .bf16⟩
  | _, _ => ⟨S4x8192x4096, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S4x8192x4096 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x8192x4096 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x8192x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x8192x4096 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KernelRun.lean ====
/-
  THE COMPILED KERNEL'S BODY RUNS SAFELY. On whole staging buffers the body terminates, leaves its inputs as they
  were, and leaves something in its output block and in its two scratch buffers. Nothing is said here of what it
  writes; that is the subject of the modules about the kernel over the extended reals.
-/
module

public import proofs.«01_k».proof.Proof.Gen.Kernel.Frame.Runs
public import Idealize.ShloMosaic.Lib.Claim

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The body's run for any continuation, whichever way its conditional goes. -/
theorem run (c : Dev nD) (i : grid0.Coords) (arg3 : Memref sig .tc .smem S32 .f32) (harg3 : arg3.IsWhole) (arg4 : Memref sig .tc .smem S32 .f32) (harg4 : arg4.IsWhole) (arg5 : Memref sig .tc .smem S32 .f32) (harg5 : arg5.IsWhole) (arg6 : Memref sig .tc .vmem S1x256x128 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x128 .bf16) (harg9 : arg9.IsWhole) (arg10 : Memref sig .tc .vmem S8192x256 .f32) (harg10 : arg10.IsWhole) (arg11 : Memref sig .tc .vmem S128x8192 .fp8e4m3) (harg11 : arg11.IsWhole)
    (x0 : Vec F S32 .f32) (x1 : Vec F S32 .f32) (x2 : Vec F S32 .f32) (x3 : Vec F S1x256x128 .fp8e4m3) (x4 : Vec F S1x8192x128 .fp8e4m3) (x5 : Vec F S1x8192x128 .fp8e4m3)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)) -∗ K ⟨⟩))
          ⊢ wp frame (wpE (defs₀ (F := F)) Variants.none c none) E (cc0__attention_kernel i arg3 harg3 arg4 harg4 arg5 harg5 arg6 harg6 arg7 harg7 arg8 harg8 arg9 harg9 arg10 harg10 arg11 harg11) K := by
    simp only [cc0__attention_kernel_eq_skeleton]; unfold cc0__attention_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    by_cases hc0 : cond0_0 i
    all_goals
      sl_exec (disch := first | sl_exact hc0)
      sl_step
      iapply Hk
      isplitl [H0]
      · iexists _; isplitr; · ipureintro; exact harg3.read_unread _
        iexact H0
      isplitl [H1]
      · iexists _; isplitr; · ipureintro; exact harg4.read_unread _
        iexact H1
      isplitl [H2]
      · iexists _; isplitr; · ipureintro; exact harg5.read_unread _
        iexact H2
      isplitl [H3]
      · iexists _; isplitr; · ipureintro; exact harg6.read_unread _
        iexact H3
      isplitl [H4]
      · iexists _; isplitr; · ipureintro; exact harg7.read_unread _
        iexact H4
      isplitl [H5]
      · iexists _; isplitr; · ipureintro; exact harg8.read_unread _
        iexact H5
      isplitl [H6]
      · iexists _, _; isplitr; swap; · iexact H6
        ipureintro; rfl
      isplitl [HS0]
      · iexists _, _; isplitr; swap; · iexact HS0
        ipureintro; rfl
      iexists _, _; isplitr; swap; · iexact HS1
      ipureintro; rfl

end Cert.Kernel.Attn

end
-- ==== Proof.KernelFrame.lean ====
/-
  THE COMPILED KERNEL'S FRAME: it terminates, its arguments end as they were, its counters end at zero. The body's run
  (`run`) is put into the pipeline's certificate with the output left unnamed.
-/
module

public import proofs.«01_k».proof.Proof.KernelRun
public import Idealize.ShloMosaic.Lib.Claim

@[expose] public section

set_option maxRecDepth 16384

noncomputable section

namespace Cert.Kernel.Attn

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The one window nothing is said of: the output's. -/
def forgets : Fin 7 → Bool := fun w => w.val == 6

/-- The pipeline's proof data: every input's buffer keeps its block, the output's is left unnamed, and between points
    the scratch buffers and the generator register hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
  Φ _ := Pipeline.ΦA spec0 c
  q _ := fullShare
  owed _ := 0

/-- The arrays are those the region finds. -/
theorem A_eq (c : Dev nD) (w : Fin cfg0.W) : (dats m 0 c).A w = V m c (Pipeline.arrRef spec0 w) := by
  dsimp only [dats]

/-- What the body leaves in each input's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (∃ d, owns (c : Thread nD τ) (ms0_6 t) fullShare d))

/-- The body at any point: the inputs' buffers hold their blocks, the scratch and the output's buffer hold anything. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5]
  rw [show (dats m 0 c).Φ t.succ = Pipeline.ΦA spec0 c from rfl,
    show (dats m 0 c).Φ t.castSucc = Pipeline.ΦA spec0 c from rfl, PhiA0_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply (run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body the pipeline calls at a point is the body at that point's buffers. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

set_option backward.isDefEq.respectTransparency.types false in
/-- The launch: the region's post, and every semaphore counter at zero at the end. -/
theorem run_main_quiescent : θ_run defs (onTc (τ := τ) (main (F := F))) (s₀ m ρ) (fun r => (Pipeline.RDat.FramePost (cfgs 0) (fun c => (dats m 0 c).toRForget forgets) (V m)) r ∧ r.2.sem = fun _ => 0) :=
  Pipeline.θ_run_frame_track_forget (Q' := _) cfgs (dats m) (0 : Fin 1) launch0 defs₀ Variants.none forgets m ρ main
    (hbody := fun c => (body_obligation m c).loose) (hshare := fun c => (dats m 0 c).share_full fun _ => rfl)
    (howed := fun _ _ => rfl) (V := V m) (hmain := hmain m Variants.none) (hA := A_eq m) (hin := fun _ => .rfl) (hout := fun _ => .rfl)

/-- Every execution terminates with the input arrays unchanged; nothing is said of the output. -/
theorem run_main : θ_run defs (onTc (τ := τ) (main (F := F))) (s₀ m ρ) (Pipeline.RDat.FramePost (cfgs 0) (fun c => (dats m 0 c).toRForget forgets) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 3 rfl).trans ((A_eq m c 3).trans (V_main_arg0 m c)),
      (Pipeline.RDat.FramePost.arr_in h c 0 rfl).trans ((A_eq m c 0).trans (V_main_arg1 m c)),
      (Pipeline.RDat.FramePost.arr_in h c 4 rfl).trans ((A_eq m c 4).trans (V_main_arg2 m c)),
      (Pipeline.RDat.FramePost.arr_in h c 1 rfl).trans ((A_eq m c 1).trans (V_main_arg3 m c)),
      (Pipeline.RDat.FramePost.arr_in h c 5 rfl).trans ((A_eq m c 5).trans (V_main_arg4 m c)),
      (Pipeline.RDat.FramePost.arr_in h c 2 rfl).trans ((A_eq m c 2).trans (V_main_arg5 m c))⟩) (run_main m ρ)

/-- THE FRAME of the compiled kernel: it terminates, its arguments end unchanged, its counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Attn

end
-- ==== Proof.Block.lean ====
/-
  WHAT ONE GRID POINT COMPUTES, as plain functions of the blocks it is given: the score matrix of one query block
  against all 8192 keys, its running maxima and exponentials, the running sums, the accumulated product with the
  transposed values, and the stored output block. No buffer and no loop invariant appears here; `Trips.lean` proves
  that the kernel's four loops leave exactly these values.
-/
module

public import proofs.«01_k».proof.Proof.Gen.KernelIdeal.Skeleton
public import Idealize.ShloMosaic.Lib.ValueIdx

@[expose] public section

noncomputable section

namespace Cert.KernelIdeal.Attn

open Cert.KernelIdeal Cert.KernelIdeal.Gen Idealize.ShloMosaic Idealize.ShloMosaic.TcCoe Idealize.ShloMosaic.ValueIdx

variable {F : FTy → Type} [FloatOps F] [Named F]

/-- Row `r` of chunk `k` of the 8192 keys. -/
def pos (k : ℕ) (r : Fin 512) : Fin 8192 := Fin.ofNat 8192 (512 * k + r.val)

theorem pos_val {k : ℕ} (hk : k < 16) (r : Fin 512) : (pos k r).val = 512 * k + r.val := by
  have := r.isLt
  unfold pos
  rw [Fin.val_ofNat, Nat.mod_eq_of_lt (by omega)]

/-- Chunk `k` of a head's key (or value) block: 512 consecutive rows. -/
def rows (x : Vec F S1x8192x128 .fp8e4m3) (k : ℕ) : Vec F S1x512x128 .fp8e4m3 :=
  fun z => x (ix3 (z 0) (pos k (z 1)) (z 2))

/-- Chunk `k` of a matrix over keys × queries: 512 consecutive rows. -/
def srows (S : Vec F S8192x256 .f32) (k : ℕ) : Vec F S512x256 .f32 :=
  fun z => S (ix2 (pos k (z 0)) (z 1))

/-- Chunk `k` of the transposed values: 512 consecutive columns. -/
def vcols (V : Vec F S128x8192 .fp8e4m3) (k : ℕ) : Vec F S128x512 .fp8e4m3 :=
  fun z => V (ix2 (z 0) (pos k (z 1)))

/-- The chunk a key position is in, and its row there. -/
def chunkOf (r : Fin 8192) : ℕ := r.val / 512
def rowOf (r : Fin 8192) : Fin 512 := ⟨r.val % 512, Nat.mod_lt _ (by decide)⟩

theorem chunkOf_lt (r : Fin 8192) : chunkOf r < 16 := by unfold chunkOf; have := r.isLt; omega

theorem pos_chunkOf (r : Fin 8192) : pos (chunkOf r) (rowOf r) = r :=
  Fin.ext (by rw [pos_val (chunkOf_lt r)]; unfold chunkOf rowOf; dsimp only; omega)

theorem chunkOf_pos {k : ℕ} (hk : k < 16) (r : Fin 512) : chunkOf (pos k r) = k := by
  unfold chunkOf; rw [pos_val hk]; have := r.isLt; omega

theorem rowOf_pos {k : ℕ} (hk : k < 16) (r : Fin 512) : rowOf (pos k r) = r :=
  Fin.ext (by unfold rowOf; dsimp only; rw [pos_val hk]; have := r.isLt; omega)

/-- The values of a head, transposed chunk by chunk. -/
def vT (x : Vec F S1x8192x128 .fp8e4m3) : Vec F S128x8192 .fp8e4m3 :=
  fun y => k0_pay2 (rows x (chunkOf (y 1))) (ix2 (y 0) (rowOf (y 1)))

/-- The scores of the query block against every key, in powers of two. -/
def scores (qs ks : Elt F .f32) (q : Vec F S1x256x128 .fp8e4m3) (x : Vec F S1x8192x128 .fp8e4m3) : Vec F S8192x256 .f32 :=
  fun y => k0_pay5 qs ks q (rows x (chunkOf (y 0))) (ix2 (rowOf (y 0)) (y 1))

/-- The running maxima after `k` chunks, eight partial maxima per query. -/
def maxes (qs ks : Elt F .f32) (q : Vec F S1x256x128 .fp8e4m3) (x : Vec F S1x8192x128 .fp8e4m3) : ℕ → FVec F S8x256 .f32
  | 0 => k0_pay3
  | k + 1 => k0_pay6 qs ks q (maxes qs ks q x k) (rows x k)

/-- The exponentials of the scores less the row maximum. -/
def exps (M : FVec F S8x256 .f32) (S : Vec F S8192x256 .f32) : Vec F S8192x256 .f32 :=
  fun y => k0_pay9 M (srows S (chunkOf (y 0))) (ix2 (rowOf (y 0)) (y 1))

/-- The running sums of exponentials after `k` chunks, eight partial sums per query. -/
def sums (M : FVec F S8x256 .f32) (S : Vec F S8192x256 .f32) : ℕ → FVec F S8x256 .f32
  | 0 => k0_pay7
  | k + 1 => k0_pay10 M (sums M S k) (srows S k)

/-- The running product of the transposed values with the quantised probabilities after `k` chunks. -/
def accs (L : FVec F S8x256 .f32) (E : Vec F S8192x256 .f32) (V : Vec F S128x8192 .fp8e4m3) : ℕ → FVec F S128x256 .f32
  | 0 => k0_pay11
  | k + 1 => k0_pay12 L (accs L E V k) (srows E k) (vcols V k)

/-- The output block of one grid point. -/
def outBlock (qs ks vs : Elt F .f32) (q : Vec F S1x256x128 .fp8e4m3) (x : Vec F S1x8192x128 .fp8e4m3)
    (V : Vec F S128x8192 .fp8e4m3) : FVec F S1x256x128 .bf16 :=
  k0_pay1 (k0_pay13 (accs (sums (maxes qs ks q x 16) (scores qs ks q x) 16)
    (exps (maxes qs ks q x 16) (scores qs ks q x)) V 16)) vs (Scalar.ofBits .f32 0x3B800000#32)

end Cert.KernelIdeal.Attn
-- ==== Proof.Trips.lean ====
/-
  WHAT THE FOUR LOOPS LEAVE. Each loop of the kernel runs sixteen trips, one per chunk of 512 keys; the value each
  carries and the contents each leaves in its scratch buffer are the functions of `Block.lean`, whatever the buffer
  held before.
-/
module

public import proofs.«01_k».proof.Proof.Block
public import proofs.«01_k».proof.Proof.Gen.KernelIdeal.Loops
public import Idealize.ShloMosaic.Lib.WritesUnit
public import Idealize.ShloMosaic.Lib.Pipeline.ValueKit.Tiles

@[expose] public section

set_option maxRecDepth 16384
noncomputable section

namespace Cert.KernelIdeal.Attn

open Cert.KernelIdeal Cert.KernelIdeal.Gen Idealize.ShloMosaic Idealize.ShloMosaic.TcCoe Idealize.ShloMosaic.ValueIdx Idealize.SL.Sem

variable {F : FTy → Type} [FloatOps F] [Named F]
variable (𝒱 : Variants) (c : Dev nD) (bd : Option 𝒱.V) (i : grid0.Coords) (arg3 : Memref sig .tc .smem S32 .f32) (harg3 : arg3.IsWhole) (arg4 : Memref sig .tc .smem S32 .f32) (harg4 : arg4.IsWhole) (arg5 : Memref sig .tc .smem S32 .f32) (harg5 : arg5.IsWhole) (arg6 : Memref sig .tc .vmem S1x256x128 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x128 .bf16) (harg9 : arg9.IsWhole) (arg10 : Memref sig .tc .vmem S8192x256 .f32) (harg10 : arg10.IsWhole) (arg11 : Memref sig .tc .vmem S128x8192 .fp8e4m3) (harg11 : arg11.IsWhole)

/-! ## The loads -/

theorem trips_1 : k0_t1_loop.trips = 16 := by decide +kernel
theorem trips_2 : k0_t2_loop.trips = 16 := by decide +kernel
theorem trips_3 : k0_t3_loop.trips = 16 := by decide +kernel
theorem trips_4 : k0_t4_loop.trips = 16 := by decide +kernel

/-- A load of 512 rows of a key or value block is the chunk. -/
theorem ld_rows (x : Vec F S1x8192x128 .fp8e4m3) {k : ℕ} (hk : k < 16) {off : Fin 3 → ℕ} (inb)
    (hoff : off = ![0, 512 * k, 0]) :
    View.ld x (Rect.unit (s := S1x8192x128) off ![1, 512, 128] inb) = rows x k := by
  subst hoff
  funext z
  exact View.ld_unit_apply_of _ _ _ _ z _ fun a => by
    fin_cases a
    · exact (Nat.zero_add _).symm
    · exact pos_val hk (z 1)
    · exact (Nat.zero_add _).symm

/-- A load of 512 rows of the scratch matrix is the chunk. -/
theorem ld_srows (x : Vec F S8192x256 .f32) {k : ℕ} (hk : k < 16) {off : Fin 2 → ℕ} (inb)
    (hoff : off = ![512 * k, 0]) :
    View.ld x (Rect.unit (s := S8192x256) off ![512, 256] inb) = srows x k := by
  subst hoff
  funext z
  exact View.ld_unit_apply_of _ _ _ _ z _ fun a => by
    fin_cases a
    · exact pos_val hk (z 0)
    · exact (Nat.zero_add _).symm

/-- A load of 512 columns of the transposed values is the chunk. -/
theorem ld_vcols (x : Vec F S128x8192 .fp8e4m3) {k : ℕ} (hk : k < 16) {off : Fin 2 → ℕ} (inb)
    (hoff : off = ![0, 512 * k]) :
    View.ld x (Rect.unit (s := S128x8192) off ![128, 512] inb) = vcols x k := by
  subst hoff
  funext z
  exact View.ld_unit_apply_of _ _ _ _ z _ fun a => by
    fin_cases a
    · exact (Nat.zero_add _).symm
    · exact pos_val hk (z 1)

/-! ## The first loop: the values transposed into the scratch -/

/-- After `k` trips the columns of the chunks before `k` hold the transposed values. -/
theorem pb1 (h : k0_cond1 i = 1#1) (x : Vec F S1x8192x128 .fp8e4m3) (f : BufTy.Contents (Elt F) arg11.view.ty) :
    ∀ k, k ≤ 16 → ∀ y : S128x8192.Idx, (y 1).val < 512 * k →
      arg11.view.read (Elt F) (arg11.view.writes (Elt F) f (pb_k0_t1 (F := F) 𝒱 c bd i arg3 harg3 arg4 harg4 arg5 harg5 arg6 harg6 arg7 harg7 arg8 harg8 arg9 harg9 arg10 harg10 arg11 harg11 h (harg8.unread x) k)) y
        = vT x y
  | 0, _, y, hy => absurd hy (by omega)
  | k + 1, hk, y, hy => by
    have hk' : k < 16 := hk
    have hs := pb_k0_t1_succ (F := F) 𝒱 c bd i arg3 harg3 arg4 harg4 arg5 harg5 arg6 harg6 arg7 harg7 arg8 harg8 arg9 harg9 arg10 harg10 arg11 harg11 h (harg8.unread x) ⟨k, by rw [trips_1]; exact hk'⟩
    dsimp only at hs
    rw [hs]
    unfold tripL_k0_t1 trip_k0_t1
    dsimp only
    rw [List.singleton_append]
    by_cases hlt : (y 1).val < 512 * k
    · refine (View.read_writes_cons_unit_of_not_mem arg11.view f _ _ _ y (k0_off2_eq ⟨k, by rw [trips_1]; exact hk'⟩) 1 (.inl hlt)).trans ?_
      exact pb1 h x f k (by omega) y hlt
    · have hc : chunkOf (y 1) = k := by unfold chunkOf; omega
      refine (View.read_writes_cons_unit_of_mem arg11.view f _ _ _ y (ix2 (y 0) (rowOf (y 1))) (k0_off2_eq _) ?_).trans ?_
      · intro a
        fin_cases a
        · exact (Nat.zero_add _).symm
        · show (y 1).val = 512 * k + (y 1).val % 512
          omega
      · rw [View.readAt_eq_ld, harg8.read_unread]
        unfold vT
        rw [hc]
        exact congrFun (congrArg k0_pay2 (ld_rows x hk' _ (k0_off1_eq _))) _

/-- After the first loop the scratch holds the transposed values. -/
theorem read_t1 (h : k0_cond1 i = 1#1) (x : Vec F S1x8192x128 .fp8e4m3) (f : BufTy.Contents (Elt F) arg11.view.ty) (n : ℕ) (hn : n = 16) :
    arg11.view.read (Elt F) (arg11.view.writes (Elt F) f (pb_k0_t1 (F := F) 𝒱 c bd i arg3 harg3 arg4 harg4 arg5 harg5 arg6 harg6 arg7 harg7 arg8 harg8 arg9 harg9 arg10 harg10 arg11 harg11 h (harg8.unread x) n)) = vT x := by
  subst hn
  exact funext fun y => pb1 𝒱 c bd i arg3 harg3 arg4 harg4 arg5 harg5 arg6 harg6 arg7 harg7 arg8 harg8 arg9 harg9 arg10 harg10 arg11 harg11 h x f 16 le_rfl y (y 1).isLt

/-! ## The second loop: the scores, and their running maxima -/

theorem st2 (qs ks : Elt F .f32) (q : Vec F S1x256x128 .fp8e4m3) (x : Vec F S1x8192x128 .fp8e4m3) (f : BufTy.Contents (Elt F) arg10.view.ty) :
    ∀ k, k ≤ 16 →
      (st_k0_t2 (F := F) 𝒱 c bd i arg3 harg3 arg4 harg4 arg5 harg5 arg6 harg6 arg7 harg7 arg8 harg8 arg9 harg9 arg10 harg10 arg11 harg11 qs ks q (harg7.unread x) k0_pay3 k).1 = maxes qs ks q x k
      ∧ ∀ y : S8192x256.Idx, (y 0).val < 512 * k →
        arg10.view.read (Elt F) (arg10.view.writes (Elt F) f (st_k0_t2 (F := F) 𝒱 c bd i arg3 harg3 arg4 harg4 arg5 harg5 arg6 harg6 arg7 harg7 arg8 harg8 arg9 harg9 arg10 harg10 arg11 harg11 qs ks q (harg7.unread x) k0_pay3 k).2) y
          = scores qs ks q x y
  | 0, _ => ⟨rfl, fun y hy => absurd hy (by omega)⟩
  | k + 1, hk => by
    have hk' : k < 16 := hk
    obtain ⟨ih1, ih2⟩ := st2 qs ks q x f k (by omega)
    have hs := st_k0_t2_succ (F := F) 𝒱 c bd i arg3 harg3 arg4 harg4 arg5 harg5 arg6 harg6 arg7 harg7 arg8 harg8 arg9 harg9 arg10 harg10 arg11 harg11 qs ks q (harg7.unread x) k0_pay3 ⟨k, by rw [trips_2]; exact hk'⟩
    dsimp only at hs
    rw [hs]
    unfold tripR_k0_t2 tripL_k0_t2 trip_k0_t2
    dsimp only
    rw [ih1]
    refine ⟨?_, fun y hy => ?_⟩
    · rw [View.readAt_eq_ld, harg7.read_unread]
      exact congrArg (k0_pay6 qs ks q (maxes qs ks q x k)) (ld_rows x hk' _ (k0_off4_eq _))
    rw [List.singleton_append]
    by_cases hlt : (y 0).val < 512 * k
    · refine (View.read_writes_cons_unit_of_not_mem arg10.view f _ _ _ y (k0_off5_eq ⟨k, by rw [trips_2]; exact hk'⟩) 0 (.inl hlt)).trans ?_
      exact ih2 y hlt
    · have hc : chunkOf (y 0) = k := by unfold chunkOf; omega
      refine (View.read_writes_cons_unit_of_mem arg10.view f _ _ _ y (ix2 (rowOf (y 0)) (y 1)) (k0_off5_eq _) ?_).trans ?_
      · intro a
        fin_cases a
        · show (y 0).val = 512 * k + (y 0).val % 512
          omega
        · exact (Nat.zero_add _).symm
      · rw [View.readAt_eq_ld, harg7.read_unread]
        unfold scores
        rw [hc]
        exact congrFun (congrArg (k0_pay5 qs ks q) (ld_rows x hk' _ (k0_off4_eq _))) _

/-! ## The third loop: the exponentials in place of the scores, and their running sums -/

/-- The scratch between trips: exponentials in the chunks done, scores in the others. -/
theorem st3 (M : FVec F S8x256 .f32) (S : Vec F S8192x256 .f32) (G : BufTy.Contents (Elt F) arg10.view.ty)
    (hG : arg10.view.read (Elt F) G = S) :
    ∀ k, k ≤ 16 →
      (st_k0_t3 (F := F) 𝒱 c bd i arg3 harg3 arg4 harg4 arg5 harg5 arg6 harg6 arg7 harg7 arg8 harg8 arg9 harg9 arg10 harg10 arg11 harg11 M G k0_pay7 k).1 = sums M S k
      ∧ ∀ y : S8192x256.Idx,
        arg10.view.read (Elt F) (arg10.view.writes (Elt F) G (st_k0_t3 (F := F) 𝒱 c bd i arg3 harg3 arg4 harg4 arg5 harg5 arg6 harg6 arg7 harg7 arg8 harg8 arg9 harg9 arg10 harg10 arg11 harg11 M G k0_pay7 k).2) y
          = if (y 0).val < 512 * k then exps M S y else S y
  | 0, _ => ⟨rfl, fun y => by rw [if_neg (by omega)]; exact congrFun hG y⟩
  | k + 1, hk => by
    have hk' : k < 16 := hk
    obtain ⟨ih1, ih2⟩ := st3 M S G hG k (by omega)
    have hs := st_k0_t3_succ (F := F) 𝒱 c bd i arg3 harg3 arg4 harg4 arg5 harg5 arg6 harg6 arg7 harg7 arg8 harg8 arg9 harg9 arg10 harg10 arg11 harg11 M G k0_pay7 ⟨k, by rw [trips_3]; exact hk'⟩
    dsimp only at hs
    rw [hs]
    unfold tripR_k0_t3 tripL_k0_t3 trip_k0_t3
    dsimp only
    rw [ih1]
    have hld : ∀ inb, View.ld (arg10.view.read (Elt F) (arg10.view.writes (Elt F) G (st_k0_t3 (F := F) 𝒱 c bd i arg3 harg3 arg4 harg4 arg5 harg5 arg6 harg6 arg7 harg7 arg8 harg8 arg9 harg9 arg10 harg10 arg11 harg11 M G k0_pay7 k).2))
        (Rect.unit (s := S8192x256) (k0_off6 ⟨k, by rw [trips_3]; exact hk'⟩) ![512, 256] inb) = srows S k := fun inb => by
      rw [ld_srows _ hk' _ (k0_off6_eq _)]
      funext z
      unfold srows
      rw [ih2]
      have hp := pos_val hk' (z 0)
      exact if_neg fun h => absurd (hp ▸ h : 512 * k + (z 0).val < 512 * k) (by omega)
    refine ⟨?_, fun y => ?_⟩
    · rw [View.readAt_eq_ld]
      exact congrArg (k0_pay10 M (sums M S k)) (hld _)
    rw [List.singleton_append]
    by_cases hlt : (y 0).val < 512 * k
    · refine (View.read_writes_cons_unit_of_not_mem arg10.view G _ _ _ y (k0_off6_eq ⟨k, by rw [trips_3]; exact hk'⟩) 0 (.inl hlt)).trans ?_
      rw [ih2, if_pos hlt, if_pos (by omega)]
    by_cases hge : 512 * (k + 1) ≤ (y 0).val
    · refine (View.read_writes_cons_unit_of_not_mem arg10.view G _ _ _ y (k0_off6_eq ⟨k, by rw [trips_3]; exact hk'⟩) 0 (.inr hge)).trans ?_
      rw [ih2, if_neg hlt, if_neg (by omega)]
    · have hc : chunkOf (y 0) = k := by unfold chunkOf; omega
      refine (View.read_writes_cons_unit_of_mem arg10.view G _ _ _ y (ix2 (rowOf (y 0)) (y 1)) (k0_off6_eq _) ?_).trans ?_
      · intro a
        fin_cases a
        · show (y 0).val = 512 * k + (y 0).val % 512
          omega
        · exact (Nat.zero_add _).symm
      · rw [if_pos (by omega), View.readAt_eq_ld]
        unfold exps
        rw [hc]
        exact congrFun (congrArg (k0_pay9 M) (hld _)) _

/-! ## The fourth loop: the accumulated product -/

theorem st4 (L : FVec F S8x256 .f32) (E : Vec F S8192x256 .f32) (V : Vec F S128x8192 .fp8e4m3)
    (X : BufTy.Contents (Elt F) arg10.view.ty) (Y : BufTy.Contents (Elt F) arg11.view.ty)
    (hX : arg10.view.read (Elt F) X = E) (hY : arg11.view.read (Elt F) Y = V) :
    ∀ k, k ≤ 16 →
      st_k0_t4 (F := F) 𝒱 c bd i arg3 harg3 arg4 harg4 arg5 harg5 arg6 harg6 arg7 harg7 arg8 harg8 arg9 harg9 arg10 harg10 arg11 harg11 L X Y k0_pay11 k = accs L E V k
  | 0, _ => rfl
  | k + 1, hk => by
    have hk' : k < 16 := hk
    have ih := st4 L E V X Y hX hY k (by omega)
    have hs := st_k0_t4_succ (F := F) 𝒱 c bd i arg3 harg3 arg4 harg4 arg5 harg5 arg6 harg6 arg7 harg7 arg8 harg8 arg9 harg9 arg10 harg10 arg11 harg11 L X Y k0_pay11 ⟨k, by rw [trips_4]; exact hk'⟩
    dsimp only at hs
    rw [hs]
    unfold tripR_k0_t4 trip_k0_t4
    dsimp only
    rw [ih, View.readAt_eq_ld, View.readAt_eq_ld, hX, hY]
    exact congrArg₂ (k0_pay12 L (accs L E V k)) (ld_srows E hk' _ (k0_off7_eq _)) (ld_vcols V hk' _ (k0_off8_eq _))

/-! ## The four loops together -/

/-- The word of a scale array at the grid point's head. -/
theorem smem_word (x : Vec F S32 .f32) (inb) (z : (Rect.unit (s := S32) (k0_off3 i) S1.size inb).shape.Idx) :
    View.ld x (Rect.unit (s := S32) (k0_off3 i) S1.size inb) z = x (ix1 (i 1)) :=
  View.ld_unit_apply_of _ _ _ _ z _ fun a => by
    have hz : (z a).val = 0 := by
      have := (z a).isLt
      fin_cases a
      exact Nat.lt_one_iff.mp this
    rw [hz, k0_off3_eq]
    fin_cases a
    rfl

/-- The same word as the kernel loads it from the scale array's buffer. -/
theorem smem_load (a : Memref sig .tc .smem S32 .f32) (ha : a.IsWhole) (x : Vec F S32 .f32) (inb)
    (z : (Rect.unit (s := S32) (k0_off3 i) S1.size inb).shape.Idx) :
    a.view.readAt (Elt F) (Rect.unit (s := S32) (k0_off3 i) S1.size inb).toLoadRect (ha.unread x) z = x (ix1 (i 1)) := by
  rw [View.readAt_eq_ld, ha.read_unread]
  exact smem_word i x inb z

/-- The query block as the kernel loads it. -/
theorem block_load (a : Memref sig .tc .vmem S1x256x128 .fp8e4m3) (ha : a.IsWhole) (x : Vec F S1x256x128 .fp8e4m3) (inb) :
    a.view.readAt (Elt F) (Rect.unit (s := S1x256x128) ![0, 0, 0] S1x256x128.size inb).toLoadRect (ha.unread x) = x := by
  rw [View.readAt_eq_ld, ha.read_unread]
  exact View.ld_unit_zero (S := S1x256x128) (by decide) inb x

theorem outBlock_congr {qs qs' ks ks' vs vs' : Elt F .f32} {q q' : Vec F S1x256x128 .fp8e4m3}
    (x : Vec F S1x8192x128 .fp8e4m3) (V : Vec F S128x8192 .fp8e4m3) (h1 : qs = qs') (h2 : ks = ks') (h3 : vs = vs')
    (h4 : q = q') : outBlock qs ks vs q x V = outBlock qs' ks' vs' q' x V := by
  subst h1 h2 h3 h4; rfl

/-- What the output store holds, whatever the scratch matrix held at the start. -/
theorem out_eq (qs ks vs : Elt F .f32) (q : Vec F S1x256x128 .fp8e4m3) (x : Vec F S1x8192x128 .fp8e4m3)
    (V : Vec F S128x8192 .fp8e4m3) (f : BufTy.Contents (Elt F) arg10.view.ty) (Y : BufTy.Contents (Elt F) arg11.view.ty)
    (hY : arg11.view.read (Elt F) Y = V) (n2 n3 n4 : ℕ) (h2 : n2 = 16) (h3 : n3 = 16) (h4 : n4 = 16) :
    k0_pay1 (k0_pay13 (st_k0_t4 (F := F) 𝒱 c bd i arg3 harg3 arg4 harg4 arg5 harg5 arg6 harg6 arg7 harg7 arg8 harg8 arg9 harg9 arg10 harg10 arg11 harg11
      (st_k0_t3 (F := F) 𝒱 c bd i arg3 harg3 arg4 harg4 arg5 harg5 arg6 harg6 arg7 harg7 arg8 harg8 arg9 harg9 arg10 harg10 arg11 harg11
        (st_k0_t2 (F := F) 𝒱 c bd i arg3 harg3 arg4 harg4 arg5 harg5 arg6 harg6 arg7 harg7 arg8 harg8 arg9 harg9 arg10 harg10 arg11 harg11 qs ks q (harg7.unread x) k0_pay3 n2).1
        (arg10.view.writes (Elt F) f (st_k0_t2 (F := F) 𝒱 c bd i arg3 harg3 arg4 harg4 arg5 harg5 arg6 harg6 arg7 harg7 arg8 harg8 arg9 harg9 arg10 harg10 arg11 harg11 qs ks q (harg7.unread x) k0_pay3 n2).2) k0_pay7 n3).1
      (arg10.view.writes (Elt F) f ((st_k0_t3 (F := F) 𝒱 c bd i arg3 harg3 arg4 harg4 arg5 harg5 arg6 harg6 arg7 harg7 arg8 harg8 arg9 harg9 arg10 harg10 arg11 harg11
        (st_k0_t2 (F := F) 𝒱 c bd i arg3 harg3 arg4 harg4 arg5 harg5 arg6 harg6 arg7 harg7 arg8 harg8 arg9 harg9 arg10 harg10 arg11 harg11 qs ks q (harg7.unread x) k0_pay3 n2).1
        (arg10.view.writes (Elt F) f (st_k0_t2 (F := F) 𝒱 c bd i arg3 harg3 arg4 harg4 arg5 harg5 arg6 harg6 arg7 harg7 arg8 harg8 arg9 harg9 arg10 harg10 arg11 harg11 qs ks q (harg7.unread x) k0_pay3 n2).2) k0_pay7 n3).2
        ++ (st_k0_t2 (F := F) 𝒱 c bd i arg3 harg3 arg4 harg4 arg5 harg5 arg6 harg6 arg7 harg7 arg8 harg8 arg9 harg9 arg10 harg10 arg11 harg11 qs ks q (harg7.unread x) k0_pay3 n2).2))
      Y k0_pay11 n4)) vs (FloatOps.ofBits .f32 0x3B800000#32)
      = outBlock qs ks vs q x V := by
  subst h2 h3 h4
  obtain ⟨hM, hS⟩ := st2 𝒱 c bd i arg3 harg3 arg4 harg4 arg5 harg5 arg6 harg6 arg7 harg7 arg8 harg8 arg9 harg9 arg10 harg10 arg11 harg11 qs ks q x f 16 le_rfl
  have hS' := funext fun y => hS y (y 0).isLt
  rw [View.writes_append, hM]
  obtain ⟨hL, hE⟩ := st3 𝒱 c bd i arg3 harg3 arg4 harg4 arg5 harg5 arg6 harg6 arg7 harg7 arg8 harg8 arg9 harg9 arg10 harg10 arg11 harg11 (maxes qs ks q x 16) (scores qs ks q x) _ hS' 16 le_rfl
  have hE' := funext fun y => (hE y).trans (if_pos (y 0).isLt)
  rw [hL, st4 𝒱 c bd i arg3 harg3 arg4 harg4 arg5 harg5 arg6 harg6 arg7 harg7 arg8 harg8 arg9 harg9 arg10 harg10 arg11 harg11 _ _ V _ Y hE' hY 16 le_rfl]
  rfl

end Cert.KernelIdeal.Attn
-- ==== Proof.RunA.lean ====
/-
  THE BODY'S RUN, case A of its one conditional (the first query block of a head). On whole staging buffers
  the body runs to its end, leaving its inputs as they were, `outBlock` in the output block, and in the carried
  scratch the transposed values.
-/
module

public import proofs.«01_k».proof.Proof.Trips
public import proofs.«01_k».proof.Proof.Gen.KernelIdeal.Frame.Runs

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The run of case A, for any continuation. -/
theorem run_A (c : Dev nD) (i : grid0.Coords) (arg3 : Memref sig .tc .smem S32 .f32) (harg3 : arg3.IsWhole) (arg4 : Memref sig .tc .smem S32 .f32) (harg4 : arg4.IsWhole) (arg5 : Memref sig .tc .smem S32 .f32) (harg5 : arg5.IsWhole) (arg6 : Memref sig .tc .vmem S1x256x128 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x128 .bf16) (harg9 : arg9.IsWhole) (arg10 : Memref sig .tc .vmem S8192x256 .f32) (harg10 : arg10.IsWhole) (arg11 : Memref sig .tc .vmem S128x8192 .fp8e4m3) (harg11 : arg11.IsWhole) (hc0 : cond0_0 i)
    (x0 : Vec F S32 .f32) (x1 : Vec F S32 .f32) (x2 : Vec F S32 .f32) (x3 : Vec F S1x256x128 .fp8e4m3) (x4 : Vec F S1x8192x128 .fp8e4m3) (x5 : Vec F S1x8192x128 .fp8e4m3)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlock (x0 (ix1 (i 1))) (x1 (ix1 (i 1))) (x2 (ix1 (i 1))) x3 x4 (vT x5)) ∗ (∃ d, owns (c : Thread nD τ) arg10 fullShare d) ∗ owns (c : Thread nD τ) arg11 fullShare (vT x5)) -∗ K ⟨⟩))
          ⊢ wp frame (wpE (defs₀ (F := F)) Variants.none c none) E (cc0__attention_kernel i arg3 harg3 arg4 harg4 arg5 harg5 arg6 harg6 arg7 harg7 arg8 harg8 arg9 harg9 arg10 harg10 arg11 harg11) K := by
    simp only [cc0__attention_kernel_eq_skeleton]; unfold cc0__attention_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%ds1, %fs1, -, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr
      swap; · iexact H6
      ipureintro
      rw [View.read_writes_eq_canon _ _ _ (View.cover_of_tiledL _ S1x256x128.size (by sl_kernel_rfl))]
      sl_unfold_words
      rw [View.canon_unit_zero (by decide)]
      refine (out_eq Variants.none c none i arg3 harg3 arg4 harg4 arg5 harg5 arg6 harg6 arg7 harg7 arg8 harg8 arg9 harg9 arg10 harg10 arg11 harg11 _ _ _ _ x4 _ fs0 _ (read_t1 Variants.none c none i arg3 harg3 arg4 harg4 arg5 harg5 arg6 harg6 arg7 harg7 arg8 harg8 arg9 harg9 arg10 harg10 arg11 harg11 hc0 x5 fs1 _ (show _ = 16 from trips_1)) _ _ _ (show _ = 16 from trips_2) (show _ = 16 from trips_3) (show _ = 16 from trips_4)).trans ?_
      exact outBlock_congr _ _ (smem_load i arg3 harg3 x0 _ _) (smem_load i arg4 harg4 x1 _ _) (smem_load i arg5 harg5 x2 _ _) (block_load arg6 harg6 x3 _)
    isplitl [HS0]
    · iexists _, _; isplitr; swap; · iexact HS0
      ipureintro; rfl
    iexists _; isplitr
    swap; · iexact HS1
    ipureintro
    exact read_t1 Variants.none c none i arg3 harg3 arg4 harg4 arg5 harg5 arg6 harg6 arg7 harg7 arg8 harg8 arg9 harg9 arg10 harg10 arg11 harg11 hc0 x5 fs1 _ (show _ = 16 from trips_1)

end Cert.KernelIdeal.Attn

end
-- ==== Proof.RunB.lean ====
/-
  THE BODY'S RUN, case B of its one conditional (the other query blocks of a head). On whole staging buffers
  the body runs to its end, leaving its inputs as they were, `outBlock` in the output block, and in the carried
  scratch what it found there.
-/
module

public import proofs.«01_k».proof.Proof.Trips
public import proofs.«01_k».proof.Proof.Gen.KernelIdeal.Frame.Runs

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 1000000 in
/-- The run of case B, for any continuation. -/
theorem run_B (c : Dev nD) (i : grid0.Coords) (arg3 : Memref sig .tc .smem S32 .f32) (harg3 : arg3.IsWhole) (arg4 : Memref sig .tc .smem S32 .f32) (harg4 : arg4.IsWhole) (arg5 : Memref sig .tc .smem S32 .f32) (harg5 : arg5.IsWhole) (arg6 : Memref sig .tc .vmem S1x256x128 .fp8e4m3) (harg6 : arg6.IsWhole) (arg7 : Memref sig .tc .vmem S1x8192x128 .fp8e4m3) (harg7 : arg7.IsWhole) (arg8 : Memref sig .tc .vmem S1x8192x128 .fp8e4m3) (harg8 : arg8.IsWhole) (arg9 : Memref sig .tc .vmem S1x256x128 .bf16) (harg9 : arg9.IsWhole) (arg10 : Memref sig .tc .vmem S8192x256 .f32) (harg10 : arg10.IsWhole) (arg11 : Memref sig .tc .vmem S128x8192 .fp8e4m3) (harg11 : arg11.IsWhole) (hc0 : ¬cond0_0 i)
    (x0 : Vec F S32 .f32) (x1 : Vec F S32 .f32) (x2 : Vec F S32 .f32) (x3 : Vec F S1x256x128 .fp8e4m3) (x4 : Vec F S1x8192x128 .fp8e4m3) (x5 : Vec F S1x8192x128 .fp8e4m3) (xs1 : Vec F S128x8192 .fp8e4m3)
    (E : Set ℕ) (K : PUnit → sProp 𝕄) :
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ (∃ d, owns (c : Thread nD τ) arg9 fullShare d) ∗ (∃ d, owns (c : Thread nD τ) arg10 fullShare d) ∗ owns (c : Thread nD τ) arg11 fullShare xs1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare (outBlock (x0 (ix1 (i 1))) (x1 (ix1 (i 1))) (x2 (ix1 (i 1))) x3 x4 (xs1)) ∗ (∃ d, owns (c : Thread nD τ) arg10 fullShare d) ∗ owns (c : Thread nD τ) arg11 fullShare (xs1)) -∗ K ⟨⟩))
          ⊢ wp frame (wpE (defs₀ (F := F)) Variants.none c none) E (cc0__attention_kernel i arg3 harg3 arg4 harg4 arg5 harg5 arg6 harg6 arg7 harg7 arg8 harg8 arg9 harg9 arg10 harg10 arg11 harg11) K := by
    simp only [cc0__attention_kernel_eq_skeleton]; unfold cc0__attention_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%ds0, %fs0, -, HS0⟩, ⟨%fs1, %hfs1, HS1⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg11.eq_unread hfs1
    sl_exec (disch := first | sl_exact hc0)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr
      swap; · iexact H6
      ipureintro
      rw [View.read_writes_eq_canon _ _ _ (View.cover_of_tiledL _ S1x256x128.size (by sl_kernel_rfl))]
      sl_unfold_words
      rw [View.canon_unit_zero (by decide)]
      refine (out_eq Variants.none c none i arg3 harg3 arg4 harg4 arg5 harg5 arg6 harg6 arg7 harg7 arg8 harg8 arg9 harg9 arg10 harg10 arg11 harg11 _ _ _ _ x4 _ fs0 _ (harg11.read_unread xs1) _ _ _ (show _ = 16 from trips_2) (show _ = 16 from trips_3) (show _ = 16 from trips_4)).trans ?_
      exact outBlock_congr _ _ (smem_load i arg3 harg3 x0 _ _) (smem_load i arg4 harg4 x1 _ _) (smem_load i arg5 harg5 x2 _ _) (block_load arg6 harg6 x3 _)
    isplitl [HS0]
    · iexists _, _; isplitr; swap; · iexact HS0
      ipureintro; rfl
    iexists _; isplitr
    swap; · iexact HS1
    ipureintro
    exact harg11.read_unread _

end Cert.KernelIdeal.Attn

end
-- ==== Proof.Blocks.lean ====
/-
  WHAT EACH GRID POINT READS: point `t` is query block `t % 32` of head `t / 32 % 32` of batch `t / 1024 % 4`. Its
  query block is 256 rows of that head's 128 columns, its key and value blocks are all 8192 rows of those columns,
  and its scale windows are the whole scale arrays.
-/
module

public import proofs.«01_k».proof.Proof.Block
public import proofs.«01_k».proof.Proof.Gen.KernelIdeal.Frame.Runs

@[expose] public section

noncomputable section

namespace Cert.KernelIdeal.Attn

open Cert.KernelIdeal Cert.KernelIdeal.Gen
open Idealize.ShloMosaic Idealize.ShloMosaic.TcCoe Idealize.ShloMosaic.ValueIdx
open Idealize.SL Idealize.SL.Sem

variable {F : FTy → Type} [FloatOps F] [Named F]
variable (m : (ℓ : Loc nD τ sig) → Buf (Elt F) ℓ)

/-- The batch, the head and the query block of a grid point. -/
def batchAt (t : ℕ) : Fin 4 := ⟨t / 1024 % 4, Nat.mod_lt _ (by decide)⟩
def headAt (t : ℕ) : Fin 32 := ⟨t / 32 % 32, Nat.mod_lt _ (by decide)⟩
def blockAt (t : ℕ) : Fin 32 := ⟨t % 32, Nat.mod_lt _ (by decide)⟩

/-- Column `d` of head `h`, and row `r` of query block `i`. -/
def colOf (h : Fin 32) (d : Fin 128) : Fin 4096 := ⟨h.val * 128 + d.val, by have := h.isLt; have := d.isLt; omega⟩
def qrow (i : Fin 32) (r : Fin 256) : Fin 8192 := ⟨i.val * 256 + r.val, by have := i.isLt; have := r.isLt; omega⟩

theorem coords0 (t : Fin cfg0.N) : (grid0.coords t 0).val = t.val / 1024 % 4 := Pipeline.Grid.coords_val t 0 (by decide) rfl
theorem coords1 (t : Fin cfg0.N) : (grid0.coords t 1).val = t.val / 32 % 32 := Pipeline.Grid.coords_val t 1 (by decide) rfl
theorem coords2 (t : Fin cfg0.N) : (grid0.coords t 2).val = t.val % 32 := by
  have h : (grid0.coords t 2).val = t.val / 1 % 32 := Pipeline.Grid.coords_val t 2 (by decide) rfl
  rw [h, Nat.div_one]

theorem coord1_eq (t : Fin cfg0.N) : (grid0.coords t 1 : Fin 32) = headAt t.val := Fin.ext (coords1 t)

/-- The query (and output) windows' block index at a point. -/
theorem qindex (t : Fin cfg0.N) : cc0_transform_3 (grid0.coords t) = ![t.val / 1024 % 4, t.val % 32, t.val / 32 % 32] := by
  have h0 := coords0 t; have h1 := coords1 t; have h2 := coords2 t
  unfold cc0_transform_3
  simp only [h0, h1, h2, BitVec.toNat_ofNat]
  rw [Nat.mod_eq_of_lt (a := t.val / 1024 % 4) (by omega), Nat.mod_eq_of_lt (a := t.val % 32) (by omega), Nat.mod_eq_of_lt (a := t.val / 32 % 32) (by omega)]

theorem oindex (t : Fin cfg0.N) : cc0_transform_6 (grid0.coords t) = ![t.val / 1024 % 4, t.val % 32, t.val / 32 % 32] := qindex t

/-- The key and value windows' block index at a point. -/
theorem kindex (t : Fin cfg0.N) : cc0_transform_4 (grid0.coords t) = ![t.val / 1024 % 4, 0, t.val / 32 % 32] := by
  have h0 := coords0 t; have h1 := coords1 t
  unfold cc0_transform_4
  simp only [h0, h1, BitVec.toNat_ofNat]
  rw [Nat.mod_eq_of_lt (a := t.val / 1024 % 4) (by omega), Nat.mod_eq_of_lt (a := t.val / 32 % 32) (by omega)]

theorem vindex (t : Fin cfg0.N) : cc0_transform_5 (grid0.coords t) = ![t.val / 1024 % 4, 0, t.val / 32 % 32] := kindex t

/-- The three scale windows are whole arrays. -/
theorem iblk0 (c : Dev nD) (t : Fin cfg0.N) (h : Fin 32) :
    (iblk m c 0 t : Vec F S32 .f32) (ix1 h) = m ((c : Thread nD τ).loc main_arg1) (ix1 h) := by
  unfold iblk
  rw [View.read_apply]
  show V m c main_arg1 _ = _
  rw [V_main_arg1]
  congr 1
  funext a
  apply Fin.ext
  match a with
  | ⟨0, _⟩ => show 0 * 32 + 1 * h.val = h.val; omega

theorem iblk1 (c : Dev nD) (t : Fin cfg0.N) (h : Fin 32) :
    (iblk m c 1 t : Vec F S32 .f32) (ix1 h) = m ((c : Thread nD τ).loc main_arg3) (ix1 h) := by
  unfold iblk
  rw [View.read_apply]
  show V m c main_arg3 _ = _
  rw [V_main_arg3]
  congr 1
  funext a
  apply Fin.ext
  match a with
  | ⟨0, _⟩ => show 0 * 32 + 1 * h.val = h.val; omega

theorem iblk2 (c : Dev nD) (t : Fin cfg0.N) (h : Fin 32) :
    (iblk m c 2 t : Vec F S32 .f32) (ix1 h) = m ((c : Thread nD τ).loc main_arg5) (ix1 h) := by
  unfold iblk
  rw [View.read_apply]
  show V m c main_arg5 _ = _
  rw [V_main_arg5]
  congr 1
  funext a
  apply Fin.ext
  match a with
  | ⟨0, _⟩ => show 0 * 32 + 1 * h.val = h.val; omega

/-- The query block: rows of block `t % 32`, columns of the head. -/
theorem iblk3 (c : Dev nD) (t : Fin cfg0.N) (z : S1x256x128.Idx) :
    (iblk m c 3 t : Vec F S1x256x128 .fp8e4m3) z
      = m ((c : Thread nD τ).loc main_arg0) (ix3 (batchAt t.val) (qrow (blockAt t.val) (z 1)) (colOf (headAt t.val) (z 2))) := by
  unfold iblk
  rw [View.read_apply]
  show V m c main_arg0 _ = _
  rw [V_main_arg0]
  congr 1
  funext a
  apply Fin.ext
  have hi := qindex t
  match a with
  | ⟨0, _⟩ =>
    show cc0_transform_3 (grid0.coords t) 0 * 1 + 1 * (z 0).val = t.val / 1024 % 4
    have hz : (z 0).val < 1 := (z 0).isLt
    rw [hi]; show t.val / 1024 % 4 * 1 + 1 * (z 0).val = _; omega
  | ⟨1, _⟩ =>
    show cc0_transform_3 (grid0.coords t) 1 * 256 + 1 * (z 1).val = t.val % 32 * 256 + (z 1).val
    rw [hi]; show t.val % 32 * 256 + 1 * (z 1).val = _; omega
  | ⟨2, _⟩ =>
    show cc0_transform_3 (grid0.coords t) 2 * 128 + 1 * (z 2).val = t.val / 32 % 32 * 128 + (z 2).val
    rw [hi]; show t.val / 32 % 32 * 128 + 1 * (z 2).val = _; omega

/-- The key block: every row, columns of the head. -/
theorem iblk4 (c : Dev nD) (t : Fin cfg0.N) (z : S1x8192x128.Idx) :
    (iblk m c 4 t : Vec F S1x8192x128 .fp8e4m3) z
      = m ((c : Thread nD τ).loc main_arg2) (ix3 (batchAt t.val) (z 1) (colOf (headAt t.val) (z 2))) := by
  unfold iblk
  rw [View.read_apply]
  show V m c main_arg2 _ = _
  rw [V_main_arg2]
  congr 1
  funext a
  apply Fin.ext
  have hi := kindex t
  match a with
  | ⟨0, _⟩ =>
    show cc0_transform_4 (grid0.coords t) 0 * 1 + 1 * (z 0).val = t.val / 1024 % 4
    have hz : (z 0).val < 1 := (z 0).isLt
    rw [hi]; show t.val / 1024 % 4 * 1 + 1 * (z 0).val = _; omega
  | ⟨1, _⟩ =>
    show cc0_transform_4 (grid0.coords t) 1 * 8192 + 1 * (z 1).val = (z 1).val
    rw [hi]; show 0 * 8192 + 1 * (z 1).val = _; omega
  | ⟨2, _⟩ =>
    show cc0_transform_4 (grid0.coords t) 2 * 128 + 1 * (z 2).val = t.val / 32 % 32 * 128 + (z 2).val
    rw [hi]; show t.val / 32 % 32 * 128 + 1 * (z 2).val = _; omega

/-- The value block: every row, columns of the head. -/
theorem iblk5 (c : Dev nD) (t : Fin cfg0.N) (z : S1x8192x128.Idx) :
    (iblk m c 5 t : Vec F S1x8192x128 .fp8e4m3) z
      = m ((c : Thread nD τ).loc main_arg4) (ix3 (batchAt t.val) (z 1) (colOf (headAt t.val) (z 2))) := by
  unfold iblk
  rw [View.read_apply]
  show V m c main_arg4 _ = _
  rw [V_main_arg4]
  congr 1
  funext a
  apply Fin.ext
  have hi := vindex t
  match a with
  | ⟨0, _⟩ =>
    show cc0_transform_5 (grid0.coords t) 0 * 1 + 1 * (z 0).val = t.val / 1024 % 4
    have hz : (z 0).val < 1 := (z 0).isLt
    rw [hi]; show t.val / 1024 % 4 * 1 + 1 * (z 0).val = _; omega
  | ⟨1, _⟩ =>
    show cc0_transform_5 (grid0.coords t) 1 * 8192 + 1 * (z 1).val = (z 1).val
    rw [hi]; show 0 * 8192 + 1 * (z 1).val = _; omega
  | ⟨2, _⟩ =>
    show cc0_transform_5 (grid0.coords t) 2 * 128 + 1 * (z 2).val = t.val / 32 % 32 * 128 + (z 2).val
    rw [hi]; show t.val / 32 % 32 * 128 + 1 * (z 2).val = _; omega

/-- The value block does not change from one query block of a head to the next. -/
theorem iblk5_pred (c : Dev nD) (t : Fin cfg0.N) (h0 : ¬t.val % 32 = 0) (h : t.val - 1 < cfg0.N) :
    (iblk m c 5 ⟨t.val - 1, h⟩ : Vec F S1x8192x128 .fp8e4m3) = iblk m c 5 t := by
  funext z
  have hb : batchAt (t.val - 1) = batchAt t.val := Fin.ext (by unfold batchAt; dsimp only; omega)
  have hh : headAt (t.val - 1) = headAt t.val := Fin.ext (by unfold headAt; dsimp only; omega)
  refine (iblk5 m c ⟨t.val - 1, h⟩ z).trans (Eq.trans ?_ (iblk5 m c t z).symm)
  dsimp only
  rw [hb, hh]

end Cert.KernelIdeal.Attn
-- ==== Proof.Body.lean ====
/-
  THE KERNEL'S RUN: the data of the pipeline (what each window's buffer holds after each grid point, and what the
  carried scratch holds between points), the body's obligation at every point from its two runs, the run of the whole
  program, and its frame: the arguments end unchanged and every semaphore counter at zero.
-/
module

public import proofs.«01_k».proof.Proof.RunA
public import proofs.«01_k».proof.Proof.RunB
public import proofs.«01_k».proof.Proof.Blocks
public import Idealize.ShloMosaic.Lib.Claim

@[expose] public section

noncomputable section

namespace Cert.KernelIdeal.Attn

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the output's buffer holds after point `t`: the block of its head's three scales, of its query block and of its
    head's keys and values. -/
def blockOut (c : Dev nD) (t : Fin cfg0.N) : FVec F S1x256x128 .bf16 :=
  outBlock ((iblk m c 0 t : Vec F S32 .f32) (ix1 (grid0.coords t 1))) ((iblk m c 1 t : Vec F S32 .f32) (ix1 (grid0.coords t 1)))
    ((iblk m c 2 t : Vec F S32 .f32) (ix1 (grid0.coords t 1))) (iblk m c 3 t) (iblk m c 4 t) (vT (iblk m c 5 t))

/-- The invariant before position `n`: before the first point both scratch buffers hold anything; afterwards the
    scratch carried between points holds the transposed values of the point before, the other anything, and the generator
    register some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (vT (iblk m c 5 ⟨n, hn⟩))) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (vT (iblk m c 5 ⟨n, hn⟩))) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (vT (iblk m c 5 ⟨n - 1, by omega⟩))) ∗ (∃ r, prngReg c r)) := by
  cases n with
  | zero => exact absurd rfl hz
  | succ n => rfl

/-! ## The pipeline's proof data -/

/-- The proof data of the one pipeline on core `c`: the arrays as the region finds them; after the body at point `t` each
    input's buffer at its block and the output's at `blockOut`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => blockOut m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = blockOut m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 6400000 in
/-- The body at any point: the inputs' memrefs hold their blocks, the invariant hands over the carried scratch (at the
    head's transposed values, except at a head's first point, which stores them anew), and the run of the point's case
    applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    after0_0, after0_1, after0_2, after0_3, after0_4, after0_5, after0_6]
  rw [show (dats m 0 c).Φ t.succ = PhiS m c (t.val + 1) t.isLt from rfl, PhiS_succ]
  have hN : t.val < 4096 := lt_of_lt_of_eq t.isLt (show cfg0.N = 4096 from N_0)
  unfold blockOut
  by_cases h0 : t.val % 32 = 0
  · by_cases hz : t.val = 0
    · rw [PhiS_castSucc m c t, PhiS_zero m c _ _ hz, PhiA0_eq]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · rw [PhiS_castSucc m c t, PhiS_pos m c _ _ hz]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_A c (grid0.coords t) _ _ _ _ _ _ _ _ _ _ _ _ _ _ _ _ _ _ ((hcond0_0 t).mpr h0) (iblk m c 0 t) (iblk m c 1 t) (iblk m c 2 t) (iblk m c 3 t) (iblk m c 4 t) (iblk m c 5 t) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexists _; iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · by_cases hz : t.val = 0
    · exfalso; omega
    · rw [PhiS_castSucc m c t, PhiS_pos m c _ _ hz, iblk5_pred m c t h0]
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
      iapply (run_B c (grid0.coords t) _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [HS0]; · iexact HS0
      isplitl [HS1]; · iexact HS1
      iintro ⟨H0, H1, H2, H3, H4, H5, H6, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 4096 := N_0; omega)

/-! ## The run and the frame -/

-- `θ_run_frame_track`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Attn
-- ==== Proof.Payloads.lean ====
/-
  THE KERNEL'S VECTOR EXPRESSIONS READ AT ONE ELEMENT, over the extended reals: each value the body computes, as a
  formula in the elements of the vectors it is computed from.
-/
module

public import proofs.«01_k».proof.Proof.Block
public import Idealize.ShloMosaic.Lib.Pointwise
public import Idealize.ShloMosaic.Lib.IdealHost

@[expose] public section

set_option maxRecDepth 16384

noncomputable section

namespace Cert.KernelIdeal.Attn

open Cert.KernelIdeal Cert.KernelIdeal.Gen Idealize.ShloMosaic
open scoped BigOperators

/-- What the scores are multiplied by: the two scales, the softmax scale and `log2 e`. -/
def scale2 (qs ks : EReal) : EReal :=
  qs * ks * Ideal.ofBits .f32 0x3DB504F3#32 * (((Real.log 2)⁻¹ : ℝ) : EReal)

/-- The kernel's named constant is the reciprocal of `log 2`. -/
theorem named_log2e : Named.named (F := Ideal) (φ := .f32) κ "log2_e" 0x3FB8AA3B#32 = (((Real.log 2)⁻¹ : ℝ) : EReal) :=
  IdealRules.named_const.ideal_named_scalar _ _ _ _ rfl

/-- The stored output: the accumulator times the product of the value scale and a constant. -/
theorem pay1_at (A : FVec Ideal S256x128 .f32) (vs w : EReal) (r : Fin 256) (d : Fin 128) :
    k0_pay1 (F := Ideal) A vs w (ix3 0 r d) = A (ix2 r d) * (vs * w) := by
  pointwise [k0_pay1]

/-- A chunk of values transposed. -/
theorem pay2_at (v : Vec Ideal S1x512x128 .fp8e4m3) (d : Fin 128) (r : Fin 512) :
    k0_pay2 (F := Ideal) v (ix2 d r) = v (ix3 0 r d) := by
  pointwise [k0_pay2]

/-- The maxima start at minus infinity. -/
theorem pay3_at (s : Fin 8) (c : Fin 256) : k0_pay3 (F := Ideal) (ix2 s c) = Ideal.ofBits .f32 0xFF800000#32 := by
  pointwise [k0_pay3]

/-- A chunk of scores. -/
theorem pay4_at (qs ks : EReal) (q : Vec Ideal S1x256x128 .fp8e4m3) (x : Vec Ideal S1x512x128 .fp8e4m3)
    (r : Fin 512) (c : Fin 256) :
    k0_pay4 (F := Ideal) qs ks q x (ix2 r c) = (∑ d : Fin 128, x (ix3 0 r d) * q (ix3 0 c d)) * scale2 qs ks := by
  pointwise [k0_pay4, named_log2e]
  rfl

/-- The same, as stored. -/
theorem pay5_at (qs ks : EReal) (q : Vec Ideal S1x256x128 .fp8e4m3) (x : Vec Ideal S1x512x128 .fp8e4m3)
    (r : Fin 512) (c : Fin 256) :
    k0_pay5 (F := Ideal) qs ks q x (ix2 r c) = k0_pay4 (F := Ideal) qs ks q x (ix2 r c) := by
  pointwise [k0_pay5]

/-- The row of a chunk that is row `x` of those folded into partial result `s`. -/
def foldRow (x : Fin 64) (s : Fin 8) : Fin 512 := ⟨x.val * 8 + s.val, by have := x.isLt; have := s.isLt; omega⟩

/-- The partial maxima after one more chunk. -/
theorem pay6_at (qs ks : EReal) (q : Vec Ideal S1x256x128 .fp8e4m3) (M : FVec Ideal S8x256 .f32)
    (x : Vec Ideal S1x512x128 .fp8e4m3) (s : Fin 8) (c : Fin 256) :
    k0_pay6 (F := Ideal) qs ks q M x (ix2 s c) = max (M (ix2 s c)) (Finset.univ.fold max (Ideal.ofBits .f32 0xFF800000#32)
      fun y : Fin 64 => k0_pay4 (F := Ideal) qs ks q x (ix2 (foldRow y s) c)) := by
  pointwise [k0_pay6]
  rfl

/-- The sums start at zero. -/
theorem pay7_at (s : Fin 8) (c : Fin 256) : k0_pay7 (F := Ideal) (ix2 s c) = 0 := by
  pointwise [k0_pay7]

/-- The largest score of query `c`, from its partial maxima. -/
def top (M : FVec Ideal S8x256 .f32) (c : Fin 256) : EReal :=
  Finset.univ.fold max (Ideal.ofBits .f32 0xFF800000#32) fun s : Fin 8 => M (ix2 s c)

/-- A chunk of powers of two. -/
theorem pay8_at (M : FVec Ideal S8x256 .f32) (S : Vec Ideal S512x256 .f32) (r : Fin 512) (c : Fin 256) :
    k0_pay8 (F := Ideal) M S (ix2 r c) = Ideal.exp2 (S (ix2 r c) - top M c) := by
  pointwise [k0_pay8]
  rfl

/-- The same, as stored. -/
theorem pay9_at (M : FVec Ideal S8x256 .f32) (S : Vec Ideal S512x256 .f32) (r : Fin 512) (c : Fin 256) :
    k0_pay9 (F := Ideal) M S (ix2 r c) = k0_pay8 (F := Ideal) M S (ix2 r c) := by
  pointwise [k0_pay9]

/-- The partial sums after one more chunk. -/
theorem pay10_at (M L : FVec Ideal S8x256 .f32) (S : Vec Ideal S512x256 .f32) (s : Fin 8) (c : Fin 256) :
    k0_pay10 (F := Ideal) M L S (ix2 s c)
      = L (ix2 s c) + ∑ y : Fin 64, k0_pay8 (F := Ideal) M S (ix2 (foldRow y s) c) := by
  pointwise [k0_pay10]
  rfl

/-- The product accumulator starts at zero. -/
theorem pay11_at (d : Fin 128) (c : Fin 256) : k0_pay11 (F := Ideal) (ix2 d c) = 0 := by
  pointwise [k0_pay11]

/-- An exponential times 256 over the sum, clipped. -/
def clipped (e l : EReal) : EReal :=
  min (Ideal.ofBits .f32 0x43E00000#32) (max (Ideal.ofBits .f32 0xC3E00000#32)
    (e * Ideal.div (Ideal.ofBits .f32 0x43800000#32) l))

/-- The product accumulator after one more chunk. -/
theorem pay12_at (L : FVec Ideal S8x256 .f32) (A : FVec Ideal S128x256 .f32) (E : Vec Ideal S512x256 .f32)
    (v : Vec Ideal S128x512 .fp8e4m3) (d : Fin 128) (c : Fin 256) :
    k0_pay12 (F := Ideal) L A E v (ix2 d c)
      = A (ix2 d c) + ∑ r : Fin 512, v (ix2 d r) * clipped (E (ix2 r c)) (∑ s : Fin 8, L (ix2 s c)) := by
  pointwise [k0_pay12]
  rfl

/-- The accumulator transposed. -/
theorem pay13_at (A : FVec Ideal S128x256 .f32) (r : Fin 256) (d : Fin 128) :
    k0_pay13 (F := Ideal) A (ix2 r d) = A (ix2 d r) := by
  pointwise [k0_pay13]

end Cert.KernelIdeal.Attn
-- ==== Proof.Softmax.lean ====
/-
  ATTENTION OVER THE EXTENDED REALS, and the one place where the kernel's arithmetic differs from it. `attend` is one
  output element of a head: the softmax of the scaled scores, scaled by 256 and clipped to the range of an fp8 number,
  then weighted with the values. The kernel takes powers of two of scores multiplied by `log2 e` and divides 256 by the
  sum before it multiplies; `code_pow2` says that this is the same number, whatever the scores are.
-/
module

public import Idealize.ShloMosaic.Lib.IdealHost
public import Idealize.ShloMosaic.PureOps.Ideal.Laws

@[expose] public section

noncomputable section

namespace Cert.Attention

open Idealize.ShloMosaic
open scoped BigOperators

/-- The score of query `q` against key `j`. -/
def score (q : Fin 128 → EReal) (K : Fin 8192 → Fin 128 → EReal) (σ : EReal) (j : Fin 8192) : EReal :=
  (∑ d : Fin 128, q d * K j d) * σ

/-- The largest score of a row. -/
def rowMax (t : Fin 8192 → EReal) : EReal := Finset.univ.fold max (Ideal.ofBits .f32 0xFF800000#32) t

/-- The exponential of a score less the row's largest. -/
def weight (t : Fin 8192 → EReal) (j : Fin 8192) : EReal := Ideal.exp (t j - rowMax t)

/-- A softmax weight times 256, clipped to ±448. -/
def code (t : Fin 8192 → EReal) (j : Fin 8192) : EReal :=
  min (Ideal.ofBits .f32 0x43E00000#32) (max (Ideal.ofBits .f32 0xC3E00000#32)
    (weight t j * Ideal.div 1 (∑ i, weight t i) * Ideal.ofBits .f32 0x43800000#32))

/-- One output element: the values weighted with the codes, times the value scale over 256. -/
def attend (q : Fin 128 → EReal) (K : Fin 8192 → Fin 128 → EReal) (v : Fin 8192 → EReal) (qs ks vs : EReal) : EReal :=
  (∑ j, v j * code (score q K (qs * ks * Ideal.ofBits .f32 0x3DB504F3#32)) j) * (vs * Ideal.ofBits .f32 0x3B800000#32)

/-- The head a column belongs to, and the columns of a head. -/
def headOf (c : Fin 4096) : Fin 32 := ⟨c.val / 128, by have := c.isLt; omega⟩
def headCol (h : Fin 32) (e : Fin 128) : Fin 4096 := ⟨h.val * 128 + e.val, by have := h.isLt; have := e.isLt; omega⟩

/-- Multi-head attention: the output element of batch `b`, position `r` and column `c`. -/
def attention (x k v : Fin 4 → Fin 8192 → Fin 4096 → EReal) (qs ks vs : Fin 32 → EReal)
    (b : Fin 4) (r : Fin 8192) (c : Fin 4096) : EReal :=
  attend (fun e => x b r (headCol (headOf c) e)) (fun p e => k b p (headCol (headOf c) e)) (fun p => v b p c)
    (qs (headOf c)) (ks (headOf c)) (vs (headOf c))

/-! ## Constants -/

/-- The f32 pattern of minus infinity. -/
theorem ofBits_neg_inf : Ideal.ofBits .f32 0xFF800000#32 = ⊥ := by
  simp [Ideal.ofBits, Ideal.ieee]

/-- The f32 pattern `0x43800000` is 256. -/
theorem ofBits_256 : Ideal.ofBits .f32 0x43800000#32 = ((256 : ℝ) : EReal) := by
  simp [Ideal.ofBits, Ideal.ieee, -EReal.coe_mul]; norm_num

/-- The reciprocal of the natural logarithm of two, which is the logarithm of `e` to base two. -/
abbrev log2e : ℝ := (Real.log 2)⁻¹

theorem log2e_pos : 0 < log2e := inv_pos.mpr (Real.log_pos one_lt_two)

/-! ## Powers of two for exponentials -/

/-- Two to the power `x · log2 e` is `e` to the power `x`. -/
theorem exp2_mul_log2e (x : EReal) : Ideal.exp2 (x * (log2e : EReal)) = Ideal.exp x := by
  induction x with
  | bot => rw [EReal.bot_mul_coe_of_pos log2e_pos, Ideal.exp2_bot, Ideal.exp_bot]
  | top => rw [EReal.top_mul_coe_of_pos log2e_pos, Ideal.exp2_top, Ideal.exp_top]
  | coe r =>
    rw [← EReal.coe_mul, Ideal.exp2_coe, Ideal.exp_coe]
    congr 1
    show (2 : ℝ) ^ (r * log2e) = _
    rw [Real.rpow_def_of_pos two_pos]
    congr 1
    have h : Real.log 2 ≠ 0 := (Real.log_pos one_lt_two).ne'
    unfold log2e
    field_simp

/-- A difference times `log2 e`. -/
theorem sub_mul_log2e (a b : EReal) : a * (log2e : EReal) - b * (log2e : EReal) = (a - b) * (log2e : EReal) := by
  rw [sub_eq_add_neg, sub_eq_add_neg, EReal.right_distrib_of_nonneg_of_ne_top (EReal.coe_nonneg.mpr log2e_pos.le)
    (EReal.coe_ne_top _), EReal.neg_mul]

/-- The largest score times `log2 e` bounds exactly what bounds every score times `log2 e`. -/
theorem rowMax_mul_le (t : Fin 8192 → EReal) (a : EReal) :
    rowMax t * (log2e : EReal) ≤ a ↔ ∀ j, t j * (log2e : EReal) ≤ a := by
  have h0 : (0 : EReal) < (log2e : EReal) := EReal.coe_pos.mpr log2e_pos
  simp only [← EReal.le_div_iff_mul_le h0 (EReal.coe_ne_top _)]
  unfold rowMax
  rw [Finset.fold_max_le, ofBits_neg_inf]
  simp

/-- An exponential is not negative. -/
theorem exp_nonneg (x : EReal) : 0 ≤ Ideal.exp x := by
  induction x with
  | bot => exact le_rfl
  | top => exact le_top
  | coe r => exact EReal.coe_nonneg.mpr (Real.exp_pos r).le

/-- Dividing 256 by the sum first. -/
theorem mul_div_256 {e : EReal} (he : 0 ≤ e) (l : EReal) :
    e * Ideal.div ((256 : ℝ) : EReal) l = e * Ideal.div 1 l * ((256 : ℝ) : EReal) := by
  unfold Ideal.div
  have h256 : (0 : EReal) < ((256 : ℝ) : EReal) := EReal.coe_pos.mpr (by norm_num)
  by_cases hl : l = 0
  · rw [if_pos hl, if_pos hl, if_pos h256, if_pos zero_lt_one]
    rcases he.eq_or_lt with rfl | he
    · rw [zero_mul, zero_mul]
    · rw [EReal.mul_top_of_pos he, EReal.top_mul_of_pos h256]
  · rw [if_neg hl, if_neg hl, one_mul, mul_assoc, mul_comm l⁻¹]

/-- The kernel's code from its own exponentials: scores `t · log2 e`, their largest `M`, powers of two, their sum, and
    256 over it. -/
theorem code_pow2 (t S : Fin 8192 → EReal) (M L : EReal) (hS : ∀ j, S j = t j * (log2e : EReal))
    (hM : ∀ a, M ≤ a ↔ ∀ j, S j ≤ a) (hL : L = ∑ j, Ideal.exp2 (S j - M)) (j : Fin 8192) :
    min (Ideal.ofBits .f32 0x43E00000#32) (max (Ideal.ofBits .f32 0xC3E00000#32)
      (Ideal.exp2 (S j - M) * Ideal.div (Ideal.ofBits .f32 0x43800000#32) L)) = code t j := by
  have hMt : M = rowMax t * (log2e : EReal) := eq_of_forall_ge_iff fun a => by
    rw [hM, rowMax_mul_le]; simp only [hS]
  have he : ∀ i, Ideal.exp2 (S i - M) = weight t i := fun i => by
    rw [hS, hMt, sub_mul_log2e, exp2_mul_log2e]; rfl
  have hLt : L = ∑ i, weight t i := hL.trans (Finset.sum_congr rfl fun i _ => he i)
  have hmul : weight t j * Ideal.div (Ideal.ofBits .f32 0x43800000#32) L
      = weight t j * Ideal.div 1 (∑ i, weight t i) * Ideal.ofBits .f32 0x43800000#32 := by
    rw [ofBits_256, hLt]; exact mul_div_256 (exp_nonneg _) _
  rw [he j, hmul]
  exact (code.eq_1 t j).symm

end Cert.Attention
-- ==== Proof.BlockValue.lean ====
/-
  ONE GRID POINT COMPUTES ATTENTION. Over the extended reals the output block of a grid point is, element by element,
  `attend` of its query row, of all keys and values of its head and of the head's scales: the maxima and sums the kernel
  keeps in eight partial results over sixteen chunks are the maximum and the sum over all keys.
-/
module

public import proofs.«01_k».proof.Proof.Payloads
public import proofs.«01_k».proof.Proof.Softmax

@[expose] public section

set_option maxRecDepth 16384

noncomputable section

namespace Cert.KernelIdeal.Attn

open Cert.KernelIdeal Cert.KernelIdeal.Gen Cert.Attention Idealize.ShloMosaic
open scoped BigOperators

/-! ## Chunks of the keys -/

/-- A sum over all keys, chunk by chunk. -/
theorem chunk_sum (g : Fin 8192 → EReal) :
    ∑ p, g p = ∑ k ∈ Finset.range 16, ∑ r : Fin 512, g (pos k r) := by
  rw [Fin.sum_univ_tiles 16 512 rfl, Finset.sum_range]
  refine Finset.sum_congr rfl fun k _ => Finset.sum_congr rfl fun r _ => congrArg g (Fin.ext ?_)
  rw [pos_val k.isLt]
  show k.val * 512 + r.val = _
  omega

/-- A sum over a chunk, partial result by partial result. -/
theorem fold_sum (f : Fin 512 → EReal) : ∑ r, f r = ∑ s : Fin 8, ∑ y : Fin 64, f (foldRow y s) := by
  rw [Fin.sum_univ_tiles 64 8 rfl, Finset.sum_comm]
  rfl

/-- Every row of a chunk is folded into some partial result. -/
theorem foldRow_surj (r : Fin 512) : ∃ y s, foldRow y s = r :=
  ⟨⟨r.val / 8, by have := r.isLt; omega⟩, ⟨r.val % 8, by omega⟩, Fin.ext (by unfold foldRow; dsimp only; omega)⟩

theorem rows_at (x : Vec Ideal S1x8192x128 .fp8e4m3) (k : ℕ) (r : Fin 512) (d : Fin 128) :
    rows x k (ix3 0 r d) = x (ix3 0 (pos k r) d) := by
  rw [ix3_eq_valueIdx 0 (pos k r) d]; rfl

theorem srows_at (S : Vec Ideal S8192x256 .f32) (k : ℕ) (r : Fin 512) (c : Fin 256) :
    srows S k (ix2 r c) = S (ix2 (pos k r) c) := by
  rw [ix2_eq_valueIdx (pos k r) c]; rfl

theorem vcols_at (V : Vec Ideal S128x8192 .fp8e4m3) (k : ℕ) (d : Fin 128) (r : Fin 512) :
    vcols V k (ix2 d r) = V (ix2 d (pos k r)) := by
  rw [ix2_eq_valueIdx d (pos k r)]; rfl

/-! ## The values a point computes -/

/-- The transposed values. -/
theorem vT_at (x : Vec Ideal S1x8192x128 .fp8e4m3) (d : Fin 128) (p : Fin 8192) :
    vT x (ix2 d p) = x (ix3 0 p d) := by
  show k0_pay2 (rows x (chunkOf p)) (ValueIdx.ix2 d (rowOf p)) = _
  rw [← ix2_eq_valueIdx, pay2_at, rows_at, pos_chunkOf]

section
variable (qs ks : EReal) (q : Vec Ideal S1x256x128 .fp8e4m3) (x : Vec Ideal S1x8192x128 .fp8e4m3)

/-- The scores. -/
theorem scores_at (p : Fin 8192) (c : Fin 256) :
    scores (F := Ideal) qs ks q x (ix2 p c) = (∑ d : Fin 128, x (ix3 0 p d) * q (ix3 0 c d)) * scale2 qs ks := by
  show k0_pay5 (F := Ideal) qs ks q (rows x (chunkOf p)) (ValueIdx.ix2 (rowOf p) c) = _
  rw [← ix2_eq_valueIdx, pay5_at, pay4_at]
  simp only [rows_at, pos_chunkOf]

/-- A chunk's scores are rows of the score matrix. -/
theorem chunk_scores (k : ℕ) (r : Fin 512) (c : Fin 256) :
    k0_pay4 (F := Ideal) qs ks q (rows x k) (ix2 r c) = scores (F := Ideal) qs ks q x (ix2 (pos k r) c) := by
  rw [scores_at, pay4_at]
  simp only [rows_at]

/-- A bound of a partial maximum after `k` chunks is a bound of the scores folded into it. -/
theorem maxes_le (s : Fin 8) (c : Fin 256) (a : EReal) : ∀ k : ℕ, maxes (F := Ideal) qs ks q x k (ix2 s c) ≤ a ↔
    ∀ j < k, ∀ y : Fin 64, scores (F := Ideal) qs ks q x (ix2 (pos j (foldRow y s)) c) ≤ a
  | 0 => by
    show k0_pay3 (F := Ideal) (ix2 s c) ≤ a ↔ _
    rw [pay3_at, ofBits_neg_inf]
    simp
  | k + 1 => by
    show k0_pay6 (F := Ideal) qs ks q (maxes (F := Ideal) qs ks q x k) (rows x k) (ix2 s c) ≤ a ↔ _
    rw [pay6_at, max_le_iff, maxes_le s c a k, Finset.fold_max_le, ofBits_neg_inf]
    simp only [chunk_scores, bot_le, true_and, Finset.mem_univ, forall_const, Nat.lt_succ_iff_lt_or_eq]
    constructor
    · rintro ⟨h, h'⟩ j (hj | rfl) y
      exacts [h j hj y, h' y]
    · exact fun h => ⟨fun j hj => h j (.inl hj), h k (.inr rfl)⟩

/-- So the largest is bounded by what bounds every score. -/
theorem top_le (c : Fin 256) (a : EReal) : top (maxes (F := Ideal) qs ks q x 16) c ≤ a ↔
    ∀ p, scores (F := Ideal) qs ks q x (ix2 p c) ≤ a := by
  unfold top
  rw [Finset.fold_max_le, ofBits_neg_inf]
  simp only [bot_le, true_and, Finset.mem_univ, forall_const, maxes_le]
  constructor
  · intro h p
    obtain ⟨y, s, e⟩ := foldRow_surj (rowOf p)
    have h' := h s (chunkOf p) (chunkOf_lt p) y
    rwa [e, pos_chunkOf] at h'
  · exact fun h s j _ y => h _

end

section
variable (M : FVec Ideal S8x256 .f32) (S : Vec Ideal S8192x256 .f32)

/-- The powers of two. -/
theorem exps_at (p : Fin 8192) (c : Fin 256) :
    exps (F := Ideal) M S (ix2 p c) = Ideal.exp2 (S (ix2 p c) - top M c) := by
  show k0_pay9 (F := Ideal) M (srows S (chunkOf p)) (ValueIdx.ix2 (rowOf p) c) = _
  rw [← ix2_eq_valueIdx, pay9_at, pay8_at, srows_at, pos_chunkOf]

/-- A partial sum after `k` chunks. -/
theorem sums_at (s : Fin 8) (c : Fin 256) : ∀ k : ℕ, sums (F := Ideal) M S k (ix2 s c)
    = ∑ j ∈ Finset.range k, ∑ y : Fin 64, Ideal.exp2 (S (ix2 (pos j (foldRow y s)) c) - top M c)
  | 0 => by
    show k0_pay7 (F := Ideal) (ix2 s c) = _
    rw [pay7_at, Finset.range_zero, Finset.sum_empty]
  | k + 1 => by
    show k0_pay10 (F := Ideal) M (sums (F := Ideal) M S k) (srows S k) (ix2 s c) = _
    rw [pay10_at, sums_at s c k, Finset.sum_range_succ]
    simp only [pay8_at, srows_at]

/-- The partial sums add up to the sum over all keys. -/
theorem total (c : Fin 256) : ∑ s : Fin 8, sums (F := Ideal) M S 16 (ix2 s c)
    = ∑ p, Ideal.exp2 (S (ix2 p c) - top M c) := by
  rw [chunk_sum]
  simp only [sums_at]
  rw [Finset.sum_comm]
  exact Finset.sum_congr rfl fun k _ => (fold_sum fun r => Ideal.exp2 (S (ix2 (pos k r) c) - top M c)).symm

end

/-- The product accumulator after `k` chunks. -/
theorem accs_at (L : FVec Ideal S8x256 .f32) (E : Vec Ideal S8192x256 .f32) (V : Vec Ideal S128x8192 .fp8e4m3)
    (d : Fin 128) (c : Fin 256) : ∀ k : ℕ, accs (F := Ideal) L E V k (ix2 d c)
    = ∑ j ∈ Finset.range k, ∑ r : Fin 512, V (ix2 d (pos j r)) * clipped (E (ix2 (pos j r) c)) (∑ s : Fin 8, L (ix2 s c))
  | 0 => by
    show k0_pay11 (F := Ideal) (ix2 d c) = _
    rw [pay11_at, Finset.range_zero, Finset.sum_empty]
  | k + 1 => by
    show k0_pay12 (F := Ideal) L (accs (F := Ideal) L E V k) (srows E k) (vcols V k) (ix2 d c) = _
    rw [pay12_at, accs_at L E V d c k, Finset.sum_range_succ]
    simp only [srows_at, vcols_at]

/-- A score of the kernel is the score times `log2 e`. -/
theorem scores_eq (qs ks : EReal) (q : Vec Ideal S1x256x128 .fp8e4m3) (x : Vec Ideal S1x8192x128 .fp8e4m3)
    (p : Fin 8192) (c : Fin 256) : scores (F := Ideal) qs ks q x (ix2 p c)
      = score (fun d => q (ix3 0 c d)) (fun p d => x (ix3 0 p d)) (qs * ks * Ideal.ofBits .f32 0x3DB504F3#32) p
        * (log2e : EReal) := by
  rw [scores_at]
  unfold score scale2
  rw [← mul_assoc]
  congr 2
  exact Finset.sum_congr rfl fun d _ => mul_comm _ _

/-- THE OUTPUT BLOCK OF A POINT IS ATTENTION. -/
theorem outBlock_at (qs ks vs : EReal) (q : Vec Ideal S1x256x128 .fp8e4m3) (x y : Vec Ideal S1x8192x128 .fp8e4m3)
    (r : Fin 256) (d : Fin 128) : outBlock (F := Ideal) qs ks vs q x (vT y) (ix3 0 r d)
      = attend (fun e => q (ix3 0 r e)) (fun p e => x (ix3 0 p e)) (fun p => y (ix3 0 p d)) qs ks vs := by
  unfold outBlock attend
  refine (pay1_at _ _ _ _ _).trans ?_
  rw [pay13_at, accs_at, ← chunk_sum fun p => vT y (ix2 d p) * clipped (exps (F := Ideal) (maxes (F := Ideal) qs ks q x 16)
    (scores (F := Ideal) qs ks q x) (ix2 p r)) (∑ s : Fin 8, sums (F := Ideal) (maxes (F := Ideal) qs ks q x 16)
    (scores (F := Ideal) qs ks q x) 16 (ix2 s r))]
  congr 1
  refine Finset.sum_congr rfl fun p _ => ?_
  rw [vT_at, exps_at, total]
  congr 1
  exact code_pow2 _ (fun p => scores (F := Ideal) qs ks q x (ix2 p r)) _ _ (fun p => scores_eq qs ks q x p r)
    (fun a => top_le qs ks q x r a) rfl p

end Cert.KernelIdeal.Attn
-- ==== Proof.ArrayValue.lean ====
/-
  THE KERNEL'S RESULT ARRAY. Every grid point writes its block of `result`, which is attention of the argument arrays, and
  the blocks of the 4096 points cover the array; so the kernel, over the extended reals, ends with attention in its result.
-/
module

public import proofs.«01_k».proof.Proof.Body
public import proofs.«01_k».proof.Proof.BlockValue

@[expose] public section

set_option maxRecDepth 16384

noncomputable section

namespace Cert.KernelIdeal.Attn

open Cert.KernelIdeal Cert.KernelIdeal.Gen Cert.Attention Idealize.ShloMosaic Idealize.ShloMosaic.TcCoe Idealize.SL.Sem

variable (m : (ℓ : Loc nD τ sig) → Buf (Elt Ideal) ℓ) (ρ : Dev nD → PrngReg)

/-- Attention of the arguments. -/
def result (c : Dev nD) : Buf (Elt Ideal) ((c : Thread nD τ).loc main_v0) := fun i : S4x8192x4096.Idx =>
  attention (fun b r c' => (m ((c : Thread nD τ).loc main_arg0) : Vec Ideal S4x8192x4096 .fp8e4m3) (ix3 b r c'))
    (fun b r c' => (m ((c : Thread nD τ).loc main_arg2) : Vec Ideal S4x8192x4096 .fp8e4m3) (ix3 b r c'))
    (fun b r c' => (m ((c : Thread nD τ).loc main_arg4) : Vec Ideal S4x8192x4096 .fp8e4m3) (ix3 b r c'))
    (fun h => (m ((c : Thread nD τ).loc main_arg1) : Vec Ideal S32 .f32) (ix1 h))
    (fun h => (m ((c : Thread nD τ).loc main_arg3) : Vec Ideal S32 .f32) (ix1 h))
    (fun h => (m ((c : Thread nD τ).loc main_arg5) : Vec Ideal S32 .f32) (ix1 h)) (i 0) (i 1) (i 2)

theorem headOf_colOf (h : Fin 32) (d : Fin 128) : headOf (colOf h d) = h :=
  Fin.ext (by unfold headOf colOf; dsimp only; have := d.isLt; omega)

/-- What a point leaves in its block, element by element. -/
theorem blockOut_at (c : Dev nD) (t : Fin cfg0.N) (r : Fin 256) (d : Fin 128) :
    blockOut m c t (ix3 0 r d)
      = result m c (ix3 (batchAt t.val) (qrow (blockAt t.val) r) (colOf (headAt t.val) d)) := by
  unfold blockOut
  refine (outBlock_at _ _ _ _ _ _ r d).trans ?_
  show _ = attention _ _ _ _ _ _ (batchAt t.val) (qrow (blockAt t.val) r) (colOf (headAt t.val) d)
  unfold attention
  rw [headOf_colOf, coord1_eq, iblk0, iblk1, iblk2]
  simp only [iblk3, iblk4, iblk5, ← ix3_eq_valueIdx, ← ix1_eq_valueIdx]
  rfl

/-- Where an element of a point's block lies in the result array. -/
theorem oblk_emb (t : Fin cfg0.N) (z : S1x256x128.Idx) : ((cfg0.win 6).blk t).view.emb z
    = (ix3 (batchAt t.val) (qrow (blockAt t.val) (z 1)) (colOf (headAt t.val) (z 2)) : S4x8192x4096.Idx) := by
  funext a
  apply Fin.ext
  have hi := oindex t
  match a with
  | ⟨0, _⟩ =>
    show cc0_transform_6 (grid0.coords t) 0 * 1 + 1 * (z 0).val = t.val / 1024 % 4
    have hz : (z 0).val < 1 := (z 0).isLt
    rw [hi]; show t.val / 1024 % 4 * 1 + 1 * (z 0).val = _; omega
  | ⟨1, _⟩ =>
    show cc0_transform_6 (grid0.coords t) 1 * 256 + 1 * (z 1).val = t.val % 32 * 256 + (z 1).val
    rw [hi]; show t.val % 32 * 256 + 1 * (z 1).val = _; omega
  | ⟨2, _⟩ =>
    show cc0_transform_6 (grid0.coords t) 2 * 128 + 1 * (z 2).val = t.val / 32 % 32 * 128 + (z 2).val
    rw [hi]; show t.val / 32 % 32 * 128 + 1 * (z 2).val = _; omega

/-- Each point writes back its block of `result`. -/
theorem flushed_eq (c : Dev nD) (t : Fin cfg0.N) :
    (dats m 0 c).flushed 6 t = ((cfg0.win 6).blk t).view.read (Elt Ideal) (result m c) := by
  show (cfg0.win 6).cut (grid0.coords t) ((dats m 0 c).after 6 t) = _
  rw [after0_6]
  funext z
  rw [View.read_apply, oblk_emb]
  have hz : (z : S1x256x128.Idx) = ix3 0 (z 1) (z 2) := by
    rw [eq_ix3 (z : S1x256x128.Idx)]
    congr 1
    exact Subsingleton.elim (α := Fin 1) _ _
  show blockOut m c t z = _
  rw [hz]
  exact blockOut_at m c t (z 1) (z 2)

/-- The point whose block holds an element of the result array. -/
def pointOf (i : S4x8192x4096.Idx) : Fin cfg0.N :=
  ⟨(i 0).val * 1024 + (i 2).val / 128 * 32 + (i 1).val / 256, by
    have h0 : (i 0).val < 4 := (i 0).isLt
    have h1 : (i 1).val < 8192 := (i 1).isLt
    have h2 : (i 2).val < 4096 := (i 2).isLt
    have hN : cfg0.N = 4096 := N_0
    omega⟩

/-- The blocks cover the array. -/
theorem covered (i : S4x8192x4096.Idx) : i ∈ ((cfg0.win 6).blk (pointOf i)).view.set := by
  have h0 : (i 0).val < 4 := (i 0).isLt
  have h1 : (i 1).val < 8192 := (i 1).isLt
  have h2 : (i 2).val < 4096 := (i 2).isLt
  have h := ((cfg0.win 6).blk (pointOf i)).view.emb_mem_set
    (ix3 0 ⟨(i 1).val % 256, Nat.mod_lt _ (by decide)⟩ ⟨(i 2).val % 128, Nat.mod_lt _ (by decide)⟩ : S1x256x128.Idx)
  rw [oblk_emb] at h
  refine (congrArg (· ∈ ((cfg0.win 6).blk (pointOf i)).view.set) ?_).mp h
  refine Eq.trans ?_ (eq_ix3 i).symm
  have e0 : batchAt (pointOf i).val = i 0 := Fin.ext (by
    show (pointOf i).val / 1024 % 4 = (i 0).val; unfold pointOf; dsimp only; omega)
  have e1 : qrow (blockAt (pointOf i).val) ⟨(i 1).val % 256, Nat.mod_lt _ (by decide)⟩ = i 1 := Fin.ext (by
    show (pointOf i).val % 32 * 256 + (i 1).val % 256 = (i 1).val; unfold pointOf; dsimp only; omega)
  have e2 : colOf (headAt (pointOf i).val) ⟨(i 2).val % 128, Nat.mod_lt _ (by decide)⟩ = i 2 := Fin.ext (by
    show (pointOf i).val / 32 % 32 * 128 + (i 2).val % 128 = (i 2).val; unfold pointOf; dsimp only; omega)
  exact congr (congr (congrArg ix3 e0) e1) e2

/-- The result array after the run. -/
theorem final (c : Dev nD) : (dats m 0 c).arrAt 6 cfg0.N = result m c :=
  (dats m 0 c).arrAt_eq_of_cover 6 (result m c) (fun t _ => flushed_eq m c t) fun i =>
    ⟨pointOf i, flush0_6 _, covered i⟩

/-- THE RUN: the result array at attention of the arguments, the arguments unchanged. -/
theorem run_value : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨((h c).1 6).trans (final m c),
      ((h c).1 3).trans (((dats m 0 c).arrAt_in 3 rfl _).trans ((A_eq m c 3).trans (V_main_arg0 m c))),
      ((h c).1 0).trans (((dats m 0 c).arrAt_in 0 rfl _).trans ((A_eq m c 0).trans (V_main_arg1 m c))),
      ((h c).1 4).trans (((dats m 0 c).arrAt_in 4 rfl _).trans ((A_eq m c 4).trans (V_main_arg2 m c))),
      ((h c).1 1).trans (((dats m 0 c).arrAt_in 1 rfl _).trans ((A_eq m c 1).trans (V_main_arg3 m c))),
      ((h c).1 5).trans (((dats m 0 c).arrAt_in 5 rfl _).trans ((A_eq m c 5).trans (V_main_arg4 m c))),
      ((h c).1 2).trans (((dats m 0 c).arrAt_in 2 rfl _).trans ((A_eq m c 2).trans (V_main_arg5 m c)))⟩)
    (run_main m ρ)

end Cert.KernelIdeal.Attn
-- ==== Proof.RefValue.lean ====
/-
  THE REFERENCE COMPUTES ATTENTION: over the extended reals, each element of its result is `attention` of its arguments.
-/
module

public import proofs.«01_k».proof.Proof.Gen.ReferenceIdeal.Value
public import proofs.«01_k».proof.Proof.Softmax
public import Idealize.ShloMosaic.Lib.Pointwise

@[expose] public section

set_option maxRecDepth 16384

noncomputable section

namespace Cert.ReferenceIdeal.Attn

open Cert.ReferenceIdeal Cert.ReferenceIdeal.Gen Cert.Attention Idealize.ShloMosaic
open scoped BigOperators

/-- The weighted sum of values of one head, before its scale. -/
theorem pay2_at (x k v : Vec Ideal S4x8192x4096 .fp8e4m3) (qs ks : Vec Ideal S32 .f32)
    (b : Fin 4) (r : Fin 8192) (h : Fin 32) (d : Fin 128) :
    k0_pay2 (F := Ideal) x k v qs ks (ix4 b r h d) = ∑ j : Fin 8192, v (ix3 b j (headCol h d))
      * code (score (fun e => x (ix3 b r (headCol h e))) (fun p e => k (ix3 b p (headCol h e)))
          (qs (ix1 h) * ks (ix1 h) * Ideal.ofBits .f32 0x3DB504F3#32)) j := by
  pointwise [k0_pay2]
  rfl

/-- The stored result: each head's sum times its scale, the heads side by side. -/
theorem pay1_at (A : FVec Ideal S4x8192x32x128 .f32) (v : Vec Ideal S32 .f32) (b : Fin 4) (r : Fin 8192) (c : Fin 4096) :
    k0_pay1 (F := Ideal) A (k0_pay3 (F := Ideal) v) (k0_pay4 (F := Ideal)) (ix3 b r c)
      = A (ix4 b r (headOf c) ⟨c.val % 128, Nat.mod_lt _ (by decide)⟩)
        * (v (ix1 (headOf c)) * Ideal.ofBits .f32 0x3B800000#32) := by
  pointwise [k0_pay1, k0_pay3, k0_pay4]
  rfl

theorem headCol_headOf (c : Fin 4096) : headCol (headOf c) ⟨c.val % 128, Nat.mod_lt _ (by decide)⟩ = c :=
  Fin.ext (by unfold headCol headOf; dsimp only; omega)

/-- The result is attention. -/
theorem result_at (x k v : Vec Ideal S4x8192x4096 .fp8e4m3) (qs ks vs : Vec Ideal S32 .f32)
    (b : Fin 4) (r : Fin 8192) (c : Fin 4096) :
    k0_pay1 (F := Ideal) (k0_pay2 (F := Ideal) x k v qs ks) (k0_pay3 (F := Ideal) vs) (k0_pay4 (F := Ideal)) (ix3 b r c)
      = attention (fun b r c => x (ix3 b r c)) (fun b r c => k (ix3 b r c)) (fun b r c => v (ix3 b r c))
          (fun h => qs (ix1 h)) (fun h => ks (ix1 h)) (fun h => vs (ix1 h)) b r c := by
  rw [pay1_at, pay2_at, headCol_headOf]
  rfl

end Cert.ReferenceIdeal.Attn
-- ==== Proof.lean ====
/-
  The proof of the certificate's claims.
-/
module

public import proofs.«01_k».proof.Defs
public import proofs.«01_k».proof.Proof.Gen.Kernel
public import proofs.«01_k».proof.Proof.KernelFrame
public import proofs.«01_k».proof.Proof.Gen.KernelIdeal
public import proofs.«01_k».proof.Proof.Body
public import proofs.«01_k».proof.Proof.ArrayValue
public import proofs.«01_k».proof.Proof.Gen.ReferenceIdeal
public import proofs.«01_k».proof.Proof.Gen.ReferenceIdeal.Frame
public import proofs.«01_k».proof.Proof.Gen.ReferenceIdeal.Value
public import proofs.«01_k».proof.Proof.RefValue
public import Idealize.ShloMosaic.Adequacy
public import Idealize.ShloMosaic.Init

@[expose] public section

noncomputable section

namespace Cert.Proof

open Idealize.ShloMosaic Idealize.SL.Sem

/-- The reference's result, of arguments equal to the kernel's, is the array the kernel computes. -/
theorem reference_result (m : (ℓ : Loc Cert.KernelIdeal.nD Cert.KernelIdeal.τ Cert.KernelIdeal.sig) → Buf (Elt Ideal) ℓ)
    (c : Dev Cert.KernelIdeal.nD) :
    Cert.ReferenceIdeal.Value.G6 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
      = Cert.KernelIdeal.Attn.result m c := by
  funext i
  rw [eq_ix3 i]
  exact Cert.ReferenceIdeal.Attn.result_at _ _ _ _ _ _ _ _ _

/-- The kernel and the reference compute the same array over the extended reals. -/
theorem same_value : Cert.algebraic_KernelIdeal_ReferenceIdeal := fun m ρ m' ρ' _ hagree =>
  ⟨fun c => Cert.KernelIdeal.Attn.result m c, Cert.KernelIdeal.Attn.run_value m ρ,
    (θ_run _ _ _).mono (fun r h c => ⟨(h c).1.trans (by
        obtain ⟨h0, h1, h2, h3, h4, h5⟩ := hagree c
        rw [h0, h1, h2, h3, h4, h5]
        exact reference_result m c), (h c).2⟩) (Cert.ReferenceIdeal.Value.run m' ρ')⟩

theorem claim : Cert.Claim := ⟨Cert.Kernel.Gen.facts, Cert.KernelIdeal.Gen.facts, Cert.ReferenceIdeal.Gen.facts,
  fun m ρ _ => Cert.Kernel.Attn.frame m ρ,
  fun m ρ _ => Cert.KernelIdeal.Attn.frame m ρ,
  fun m ρ _ => Cert.ReferenceIdeal.Gen.frame m ρ,
  IdealRules.named_const.statement Cert.KernelIdeal.κ "log2_e" .f32 0x3FB8AA3B#32 (((Real.log 2)⁻¹ : ℝ) : EReal) rfl,
  same_value⟩

end Cert.Proof
